-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v293) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x3x384x384 : Shape := ⟨4, ![1, 3, 384, 384]⟩
abbrev S1x6x384x384 : Shape := ⟨4, ![1, 6, 384, 384]⟩
abbrev S16x102x64 : Shape := ⟨3, ![16, 102, 64]⟩
abbrev S16x64 : Shape := ⟨2, ![16, 64]⟩
abbrev S16x2x64x64 : Shape := ⟨4, ![16, 2, 64, 64]⟩
abbrev S16x2x64 : Shape := ⟨3, ![16, 2, 64]⟩
abbrev S16x64x4 : Shape := ⟨3, ![16, 64, 4]⟩
abbrev S16x4 : Shape := ⟨2, ![16, 4]⟩
abbrev S16x103x64 : Shape := ⟨3, ![16, 103, 64]⟩
abbrev S16x104x64 : Shape := ⟨3, ![16, 104, 64]⟩
abbrev S_ : Shape := ⟨0, ![]⟩
abbrev S16x1x64x64 : Shape := ⟨4, ![16, 1, 64, 64]⟩
abbrev S16x64x64 : Shape := ⟨3, ![16, 64, 64]⟩
abbrev S16x1x64 : Shape := ⟨3, ![16, 1, 64]⟩

class Facts : Prop where
  bcast_S_S1x3x384x384 : S_.BroadcastsInDim S1x3x384x384 (![] : Fin 0 → Fin S1x3x384x384.rank)
  reducesTo_S1x3x384x384_S_d0_1_2_3 : S1x3x384x384.ReducesTo [0, 1, 2, 3] S_
  h_S_ : 0 < S_.numel
  bcast_S_S1x6x384x384 : S_.BroadcastsInDim S1x6x384x384 (![] : Fin 0 → Fin S1x6x384x384.rank)
  reducesTo_S1x6x384x384_S_d0_1_2_3 : S1x6x384x384.ReducesTo [0, 1, 2, 3] S_
  slices_S16x2x64x64_S16x1x64x64_0_0_0_0 : S16x2x64x64.Slices ![0, 0, 0, 0] S16x1x64x64
  shapeCasts_S16x1x64x64_S16x64x64 : S16x1x64x64.ShapeCasts S16x64x64
  slices_S16x2x64_S16x1x64_0_0_0 : S16x2x64.Slices ![0, 0, 0] S16x1x64
  shapeCasts_S16x1x64_S16x64 : S16x1x64.ShapeCasts S16x64
  bcast_S_S16x102x64 : S_.BroadcastsInDim S16x102x64 (![] : Fin 0 → Fin S16x102x64.rank)
  reducesTo_S16x102x64_S_d0_1_2 : S16x102x64.ReducesTo [0, 1, 2] S_
  bcast_S_S16x64 : S_.BroadcastsInDim S16x64 (![] : Fin 0 → Fin S16x64.rank)
  reducesTo_S16x64_S_d0_1 : S16x64.ReducesTo [0, 1] S_
  bcast_S_S16x64x64 : S_.BroadcastsInDim S16x64x64 (![] : Fin 0 → Fin S16x64x64.rank)
  reducesTo_S16x64x64_S_d0_1_2 : S16x64x64.ReducesTo [0, 1, 2] S_
  bcast_S_S16x103x64 : S_.BroadcastsInDim S16x103x64 (![] : Fin 0 → Fin S16x103x64.rank)
  reducesTo_S16x103x64_S_d0_1_2 : S16x103x64.ReducesTo [0, 1, 2] S_
  bcast_S_S16x104x64 : S_.BroadcastsInDim S16x104x64 (![] : Fin 0 → Fin S16x104x64.rank)
  reducesTo_S16x104x64_S_d0_1_2 : S16x104x64.ReducesTo [0, 1, 2] S_

variable [Facts]

def fn_part4 {F : FTy → Type} [FloatOps F] (main_v60 : FVec F S16x64 .f32) (main_v70 : IVec S_ 1) (main_v71 : FVec F S16x64x64 .f32) : IVec S_ 1 :=
  let main_cst_22 : FVec F S_ .f32 := constant S_ .f32 0x7F800000#32
  let main_v72 : FVec F S16x64x64 .f32 := broadcastInDim S16x64x64 ![] bcast_S_S16x64x64 main_cst_22
  let main_v73 : IVec S16x64x64 1 := cmpf .olt main_v71 main_v72
  let main_c_23 : IVec S_ 1 := constantI S_ 1 1#1
  let main_v74 : IVec S_ 1 := (fun x v => Host.reduce IntOp.andi x v reducesTo_S16x64x64_S_d0_1_2 h_S_) main_v73 main_c_23
  let main_v75 : IVec S_ 1 := andi main_v70 main_v74
  let main_v76 : FVec F S16x64 .f32 := Host.absf main_v60
  let main_cst_24 : FVec F S_ .f32 := constant S_ .f32 0x7F800000#32
  let main_v77 : FVec F S16x64 .f32 := broadcastInDim S16x64 ![] bcast_S_S16x64 main_cst_24
  let main_v78 : IVec S16x64 1 := cmpf .olt main_v76 main_v77
  let main_c_25 : IVec S_ 1 := constantI S_ 1 1#1
  let main_v79 : IVec S_ 1 := (fun x v => Host.reduce IntOp.andi x v reducesTo_S16x64_S_d0_1 h_S_) main_v78 main_c_25
  let main_v80 : IVec S_ 1 := andi main_v75 main_v79
  main_v80

def fn_part3 {F : FTy → Type} [FloatOps F] (main_arg14 : FVec F S16x104x64 .f32) (main_arg15 : FVec F S16x64 .f32) (main_arg16 : FVec F S16x2x64x64 .f32) (main_arg17 : FVec F S16x2x64 .f32) (main_v51 : IVec S_ 1) (main_v52 : FVec F S16x64 .f32) (main_cst_16 : FVec F S_ .f32) : IVec S_ 1 :=
  let main_v53 : FVec F S16x64 .f32 := broadcastInDim S16x64 ![] bcast_S_S16x64 main_cst_16
  let main_v54 : IVec S16x64 1 := cmpf .olt main_v52 main_v53
  let main_c_17 : IVec S_ 1 := constantI S_ 1 1#1
  let main_v55 : IVec S_ 1 := (fun x v => Host.reduce IntOp.andi x v reducesTo_S16x64_S_d0_1 h_S_) main_v54 main_c_17
  let main_v56 : IVec S_ 1 := andi main_v51 main_v55
  let main_v57 : FVec F S16x1x64x64 .f32 := (extractStridedSlice S16x1x64x64 ![0, 0, 0, 0] · slices_S16x2x64x64_S16x1x64x64_0_0_0_0) main_arg16
  let main_v58 : FVec F S16x64x64 .f32 := shapeCast S16x64x64 main_v57 shapeCasts_S16x1x64x64_S16x64x64
  let main_v59 : FVec F S16x1x64 .f32 := (extractStridedSlice S16x1x64 ![0, 0, 0] · slices_S16x2x64_S16x1x64_0_0_0) main_arg17
  let main_v60 : FVec F S16x64 .f32 := shapeCast S16x64 main_v59 shapeCasts_S16x1x64_S16x64
  let main_v61 : FVec F S16x104x64 .f32 := Host.absf main_arg14
  let main_cst_18 : FVec F S_ .f32 := constant S_ .f32 0x7F800000#32
  let main_v62 : FVec F S16x104x64 .f32 := broadcastInDim S16x104x64 ![] bcast_S_S16x104x64 main_cst_18
  let main_v63 : IVec S16x104x64 1 := cmpf .olt main_v61 main_v62
  let main_c_19 : IVec S_ 1 := constantI S_ 1 1#1
  let main_v64 : IVec S_ 1 := (fun x v => Host.reduce IntOp.andi x v reducesTo_S16x104x64_S_d0_1_2 h_S_) main_v63 main_c_19
  let main_v65 : IVec S_ 1 := andi main_v56 main_v64
  let main_v66 : FVec F S16x64 .f32 := Host.absf main_arg15
  let main_cst_20 : FVec F S_ .f32 := constant S_ .f32 0x7F800000#32
  let main_v67 : FVec F S16x64 .f32 := broadcastInDim S16x64 ![] bcast_S_S16x64 main_cst_20
  let main_v68 : IVec S16x64 1 := cmpf .olt main_v66 main_v67
  let main_c_21 : IVec S_ 1 := constantI S_ 1 1#1
  let main_v69 : IVec S_ 1 := (fun x v => Host.reduce IntOp.andi x v reducesTo_S16x64_S_d0_1 h_S_) main_v68 main_c_21
  let main_v70 : IVec S_ 1 := andi main_v65 main_v69
  let main_v71 : FVec F S16x64x64 .f32 := Host.absf main_v58
  fn_part4 (F := F) main_v60 main_v70 main_v71

def fn_part2 {F : FTy → Type} [FloatOps F] (main_arg8 : FVec F S16x103x64 .f32) (main_arg9 : FVec F S16x64 .f32) (main_arg14 : FVec F S16x104x64 .f32) (main_arg15 : FVec F S16x64 .f32) (main_arg16 : FVec F S16x2x64x64 .f32) (main_arg17 : FVec F S16x2x64 .f32) (main_v32 : IVec S_ 1) (main_v34 : FVec F S16x64x64 .f32) (main_v35 : FVec F S16x1x64 .f32) : IVec S_ 1 :=
  let main_v36 : FVec F S16x64 .f32 := shapeCast S16x64 main_v35 shapeCasts_S16x1x64_S16x64
  let main_v37 : FVec F S16x103x64 .f32 := Host.absf main_arg8
  let main_cst_10 : FVec F S_ .f32 := constant S_ .f32 0x7F800000#32
  let main_v38 : FVec F S16x103x64 .f32 := broadcastInDim S16x103x64 ![] bcast_S_S16x103x64 main_cst_10
  let main_v39 : IVec S16x103x64 1 := cmpf .olt main_v37 main_v38
  let main_c_11 : IVec S_ 1 := constantI S_ 1 1#1
  let main_v40 : IVec S_ 1 := (fun x v => Host.reduce IntOp.andi x v reducesTo_S16x103x64_S_d0_1_2 h_S_) main_v39 main_c_11
  let main_v41 : IVec S_ 1 := andi main_v32 main_v40
  let main_v42 : FVec F S16x64 .f32 := Host.absf main_arg9
  let main_cst_12 : FVec F S_ .f32 := constant S_ .f32 0x7F800000#32
  let main_v43 : FVec F S16x64 .f32 := broadcastInDim S16x64 ![] bcast_S_S16x64 main_cst_12
  let main_v44 : IVec S16x64 1 := cmpf .olt main_v42 main_v43
  let main_c_13 : IVec S_ 1 := constantI S_ 1 1#1
  let main_v45 : IVec S_ 1 := (fun x v => Host.reduce IntOp.andi x v reducesTo_S16x64_S_d0_1 h_S_) main_v44 main_c_13
  let main_v46 : IVec S_ 1 := andi main_v41 main_v45
  let main_v47 : FVec F S16x64x64 .f32 := Host.absf main_v34
  let main_cst_14 : FVec F S_ .f32 := constant S_ .f32 0x7F800000#32
  let main_v48 : FVec F S16x64x64 .f32 := broadcastInDim S16x64x64 ![] bcast_S_S16x64x64 main_cst_14
  let main_v49 : IVec S16x64x64 1 := cmpf .olt main_v47 main_v48
  let main_c_15 : IVec S_ 1 := constantI S_ 1 1#1
  let main_v50 : IVec S_ 1 := (fun x v => Host.reduce IntOp.andi x v reducesTo_S16x64x64_S_d0_1_2 h_S_) main_v49 main_c_15
  let main_v51 : IVec S_ 1 := andi main_v46 main_v50
  let main_v52 : FVec F S16x64 .f32 := Host.absf main_v36
  let main_cst_16 : FVec F S_ .f32 := constant S_ .f32 0x7F800000#32
  fn_part3 (F := F) main_arg14 main_arg15 main_arg16 main_arg17 main_v51 main_v52 main_cst_16

def fn_part1 {F : FTy → Type} [FloatOps F] (main_arg3 : FVec F S16x64 .f32) (main_arg8 : FVec F S16x103x64 .f32) (main_arg9 : FVec F S16x64 .f32) (main_arg10 : FVec F S16x2x64x64 .f32) (main_arg11 : FVec F S16x2x64 .f32) (main_arg14 : FVec F S16x104x64 .f32) (main_arg15 : FVec F S16x64 .f32) (main_arg16 : FVec F S16x2x64x64 .f32) (main_arg17 : FVec F S16x2x64 .f32) (main_v10 : FVec F S16x64x64 .f32) (main_v12 : FVec F S16x64 .f32) (main_v17 : IVec S_ 1) : IVec S_ 1 :=
  let main_v18 : FVec F S16x64 .f32 := Host.absf main_arg3
  let main_cst_4 : FVec F S_ .f32 := constant S_ .f32 0x7F800000#32
  let main_v19 : FVec F S16x64 .f32 := broadcastInDim S16x64 ![] bcast_S_S16x64 main_cst_4
  let main_v20 : IVec S16x64 1 := cmpf .olt main_v18 main_v19
  let main_c_5 : IVec S_ 1 := constantI S_ 1 1#1
  let main_v21 : IVec S_ 1 := (fun x v => Host.reduce IntOp.andi x v reducesTo_S16x64_S_d0_1 h_S_) main_v20 main_c_5
  let main_v22 : IVec S_ 1 := andi main_v17 main_v21
  let main_v23 : FVec F S16x64x64 .f32 := Host.absf main_v10
  let main_cst_6 : FVec F S_ .f32 := constant S_ .f32 0x7F800000#32
  let main_v24 : FVec F S16x64x64 .f32 := broadcastInDim S16x64x64 ![] bcast_S_S16x64x64 main_cst_6
  let main_v25 : IVec S16x64x64 1 := cmpf .olt main_v23 main_v24
  let main_c_7 : IVec S_ 1 := constantI S_ 1 1#1
  let main_v26 : IVec S_ 1 := (fun x v => Host.reduce IntOp.andi x v reducesTo_S16x64x64_S_d0_1_2 h_S_) main_v25 main_c_7
  let main_v27 : IVec S_ 1 := andi main_v22 main_v26
  let main_v28 : FVec F S16x64 .f32 := Host.absf main_v12
  let main_cst_8 : FVec F S_ .f32 := constant S_ .f32 0x7F800000#32
  let main_v29 : FVec F S16x64 .f32 := broadcastInDim S16x64 ![] bcast_S_S16x64 main_cst_8
  let main_v30 : IVec S16x64 1 := cmpf .olt main_v28 main_v29
  let main_c_9 : IVec S_ 1 := constantI S_ 1 1#1
  let main_v31 : IVec S_ 1 := (fun x v => Host.reduce IntOp.andi x v reducesTo_S16x64_S_d0_1 h_S_) main_v30 main_c_9
  let main_v32 : IVec S_ 1 := andi main_v27 main_v31
  let main_v33 : FVec F S16x1x64x64 .f32 := (extractStridedSlice S16x1x64x64 ![0, 0, 0, 0] · slices_S16x2x64x64_S16x1x64x64_0_0_0_0) main_arg10
  let main_v34 : FVec F S16x64x64 .f32 := shapeCast S16x64x64 main_v33 shapeCasts_S16x1x64x64_S16x64x64
  let main_v35 : FVec F S16x1x64 .f32 := (extractStridedSlice S16x1x64 ![0, 0, 0] · slices_S16x2x64_S16x1x64_0_0_0) main_arg11
  fn_part2 (F := F) main_arg8 main_arg9 main_arg14 main_arg15 main_arg16 main_arg17 main_v32 main_v34 main_v35

def fn {F : FTy → Type} [FloatOps F] (main_arg0 : FVec F S1x3x384x384 .f32) (main_arg1 : FVec F S1x6x384x384 .f32) (main_arg2 : FVec F S16x102x64 .f32) (main_arg3 : FVec F S16x64 .f32) (main_arg4 : FVec F S16x2x64x64 .f32) (main_arg5 : FVec F S16x2x64 .f32) (main_arg6 : FVec F S16x64x4 .f32) (main_arg7 : FVec F S16x4 .f32) (main_arg8 : FVec F S16x103x64 .f32) (main_arg9 : FVec F S16x64 .f32) (main_arg10 : FVec F S16x2x64x64 .f32) (main_arg11 : FVec F S16x2x64 .f32) (main_arg12 : FVec F S16x64x4 .f32) (main_arg13 : FVec F S16x4 .f32) (main_arg14 : FVec F S16x104x64 .f32) (main_arg15 : FVec F S16x64 .f32) (main_arg16 : FVec F S16x2x64x64 .f32) (main_arg17 : FVec F S16x2x64 .f32) (main_arg18 : FVec F S16x64x4 .f32) (main_arg19 : FVec F S16x4 .f32) : IVec S_ 1 :=
  let main_v0 : FVec F S1x3x384x384 .f32 := Host.absf main_arg0
  let main_cst : FVec F S_ .f32 := constant S_ .f32 0x7F800000#32
  let main_v1 : FVec F S1x3x384x384 .f32 := broadcastInDim S1x3x384x384 ![] bcast_S_S1x3x384x384 main_cst
  let main_v2 : IVec S1x3x384x384 1 := cmpf .olt main_v0 main_v1
  let main_c : IVec S_ 1 := constantI S_ 1 1#1
  let main_v3 : IVec S_ 1 := (fun x v => Host.reduce IntOp.andi x v reducesTo_S1x3x384x384_S_d0_1_2_3 h_S_) main_v2 main_c
  let main_v4 : FVec F S1x6x384x384 .f32 := Host.absf main_arg1
  let main_cst_0 : FVec F S_ .f32 := constant S_ .f32 0x7F800000#32
  let main_v5 : FVec F S1x6x384x384 .f32 := broadcastInDim S1x6x384x384 ![] bcast_S_S1x6x384x384 main_cst_0
  let main_v6 : IVec S1x6x384x384 1 := cmpf .olt main_v4 main_v5
  let main_c_1 : IVec S_ 1 := constantI S_ 1 1#1
  let main_v7 : IVec S_ 1 := (fun x v => Host.reduce IntOp.andi x v reducesTo_S1x6x384x384_S_d0_1_2_3 h_S_) main_v6 main_c_1
  let main_v8 : IVec S_ 1 := andi main_v3 main_v7
  let main_v9 : FVec F S16x1x64x64 .f32 := (extractStridedSlice S16x1x64x64 ![0, 0, 0, 0] · slices_S16x2x64x64_S16x1x64x64_0_0_0_0) main_arg4
  let main_v10 : FVec F S16x64x64 .f32 := shapeCast S16x64x64 main_v9 shapeCasts_S16x1x64x64_S16x64x64
  let main_v11 : FVec F S16x1x64 .f32 := (extractStridedSlice S16x1x64 ![0, 0, 0] · slices_S16x2x64_S16x1x64_0_0_0) main_arg5
  let main_v12 : FVec F S16x64 .f32 := shapeCast S16x64 main_v11 shapeCasts_S16x1x64_S16x64
  let main_v13 : FVec F S16x102x64 .f32 := Host.absf main_arg2
  let main_cst_2 : FVec F S_ .f32 := constant S_ .f32 0x7F800000#32
  let main_v14 : FVec F S16x102x64 .f32 := broadcastInDim S16x102x64 ![] bcast_S_S16x102x64 main_cst_2
  let main_v15 : IVec S16x102x64 1 := cmpf .olt main_v13 main_v14
  let main_c_3 : IVec S_ 1 := constantI S_ 1 1#1
  let main_v16 : IVec S_ 1 := (fun x v => Host.reduce IntOp.andi x v reducesTo_S16x102x64_S_d0_1_2 h_S_) main_v15 main_c_3
  let main_v17 : IVec S_ 1 := andi main_v8 main_v16
  fn_part1 (F := F) main_arg3 main_arg8 main_arg9 main_arg10 main_arg11 main_arg14 main_arg15 main_arg16 main_arg17 main_v10 main_v12 main_v17
-- ==== Kernel.lean ====
abbrev S1x3x384x384 : Shape := ⟨4, ![1, 3, 384, 384]⟩
abbrev S1x6x384x384 : Shape := ⟨4, ![1, 6, 384, 384]⟩
abbrev S16x102x64 : Shape := ⟨3, ![16, 102, 64]⟩
abbrev S16x64 : Shape := ⟨2, ![16, 64]⟩
abbrev S16x2x64x64 : Shape := ⟨4, ![16, 2, 64, 64]⟩
abbrev S16x2x64 : Shape := ⟨3, ![16, 2, 64]⟩
abbrev S16x64x4 : Shape := ⟨3, ![16, 64, 4]⟩
abbrev S16x4 : Shape := ⟨2, ![16, 4]⟩
abbrev S16x103x64 : Shape := ⟨3, ![16, 103, 64]⟩
abbrev S16x104x64 : Shape := ⟨3, ![16, 104, 64]⟩
abbrev S112x1 : Shape := ⟨2, ![112, 1]⟩
abbrev S3x384x384 : Shape := ⟨3, ![3, 384, 384]⟩
abbrev S6x384x384 : Shape := ⟨3, ![6, 384, 384]⟩
abbrev S_ : Shape := ⟨0, ![]⟩
abbrev S1x384x384 : Shape := ⟨3, ![1, 384, 384]⟩
abbrev S10x384x384 : Shape := ⟨3, ![10, 384, 384]⟩
abbrev S10x392x392 : Shape := ⟨3, ![10, 392, 392]⟩
abbrev S112x384x384 : Shape := ⟨3, ![112, 384, 384]⟩
abbrev S7x384x384 : Shape := ⟨3, ![7, 384, 384]⟩
abbrev S384x384 : Shape := ⟨2, ![384, 384]⟩
abbrev S112x4x96x4x96 : Shape := ⟨5, ![112, 4, 96, 4, 96]⟩
abbrev S4x4x96x96x112 : Shape := ⟨5, ![4, 4, 96, 96, 112]⟩
abbrev S16x9216x112 : Shape := ⟨3, ![16, 9216, 112]⟩
abbrev S16x105x64 : Shape := ⟨3, ![16, 105, 64]⟩
abbrev S16x1x64 : Shape := ⟨3, ![16, 1, 64]⟩
abbrev S16x6x64 : Shape := ⟨3, ![16, 6, 64]⟩
abbrev S16x112x64 : Shape := ⟨3, ![16, 112, 64]⟩
abbrev S16x112x1 : Shape := ⟨3, ![16, 112, 1]⟩
abbrev S16x112x65 : Shape := ⟨3, ![16, 112, 65]⟩
abbrev S16x1x112x65 : Shape := ⟨4, ![16, 1, 112, 65]⟩
abbrev S16x3x112x65 : Shape := ⟨4, ![16, 3, 112, 65]⟩
abbrev S64x64 : Shape := ⟨2, ![64, 64]⟩
abbrev S1x1x64x64 : Shape := ⟨4, ![1, 1, 64, 64]⟩
abbrev S16x2x64x1 : Shape := ⟨4, ![16, 2, 64, 1]⟩
abbrev S16x2x64x65 : Shape := ⟨4, ![16, 2, 64, 65]⟩
abbrev S16x2x1 : Shape := ⟨3, ![16, 2, 1]⟩
abbrev S16x2x65 : Shape := ⟨3, ![16, 2, 65]⟩
abbrev S16x2x1x65 : Shape := ⟨4, ![16, 2, 1, 65]⟩
abbrev S16x2x65x65 : Shape := ⟨4, ![16, 2, 65, 65]⟩
abbrev S16x1x2x65x65 : Shape := ⟨5, ![16, 1, 2, 65, 65]⟩
abbrev S16x3x2x65x65 : Shape := ⟨5, ![16, 3, 2, 65, 65]⟩
abbrev S16x1x4 : Shape := ⟨3, ![16, 1, 4]⟩
abbrev S16x65x4 : Shape := ⟨3, ![16, 65, 4]⟩
abbrev S16x1x65x4 : Shape := ⟨4, ![16, 1, 65, 4]⟩
abbrev S16x3x65x4 : Shape := ⟨4, ![16, 3, 65, 4]⟩
abbrev S16x9216x12 : Shape := ⟨3, ![16, 9216, 12]⟩
abbrev S1x9216x112 : Shape := ⟨3, ![1, 9216, 112]⟩
abbrev S1x3x112x65 : Shape := ⟨4, ![1, 3, 112, 65]⟩
abbrev S1x3x2x65x65 : Shape := ⟨5, ![1, 3, 2, 65, 65]⟩
abbrev S1x3x65x4 : Shape := ⟨4, ![1, 3, 65, 4]⟩
abbrev S1x9216x12 : Shape := ⟨3, ![1, 9216, 12]⟩
abbrev S9216x112 : Shape := ⟨2, ![9216, 112]⟩
abbrev S1x1x112x65 : Shape := ⟨4, ![1, 1, 112, 65]⟩
abbrev S112x65 : Shape := ⟨2, ![112, 65]⟩
abbrev S9216x65 : Shape := ⟨2, ![9216, 65]⟩
abbrev S1x1x1x65x65 : Shape := ⟨5, ![1, 1, 1, 65, 65]⟩
abbrev S65x65 : Shape := ⟨2, ![65, 65]⟩
abbrev S1x1x65x4 : Shape := ⟨4, ![1, 1, 65, 4]⟩
abbrev S65x4 : Shape := ⟨2, ![65, 4]⟩
abbrev S9216x4 : Shape := ⟨2, ![9216, 4]⟩
abbrev S1x9216x4 : Shape := ⟨3, ![1, 9216, 4]⟩
abbrev S4x4x96x96x3x4 : Shape := ⟨6, ![4, 4, 96, 96, 3, 4]⟩
abbrev S4x96x4x96x3x4 : Shape := ⟨6, ![4, 96, 4, 96, 3, 4]⟩
abbrev S147456x3x4 : Shape := ⟨3, ![147456, 3, 4]⟩

abbrev nBuf : Space → Nat
  | .hbm => 138
  | .vmem => 13
  | .smem => 0
  | _ => 0

abbrev hbmTy0_0 (i : Nat) : BufTy := match i % 128 with
  | 0 => ⟨S1x3x384x384, .f32⟩
  | 1 => ⟨S1x6x384x384, .f32⟩
  | 2 => ⟨S16x102x64, .f32⟩
  | 3 => ⟨S16x64, .f32⟩
  | 4 => ⟨S16x2x64x64, .f32⟩
  | 5 => ⟨S16x2x64, .f32⟩
  | 6 => ⟨S16x64x4, .f32⟩
  | 7 => ⟨S16x4, .f32⟩
  | 8 => ⟨S16x103x64, .f32⟩
  | 9 => ⟨S16x64, .f32⟩
  | 10 => ⟨S16x2x64x64, .f32⟩
  | 11 => ⟨S16x2x64, .f32⟩
  | 12 => ⟨S16x64x4, .f32⟩
  | 13 => ⟨S16x4, .f32⟩
  | 14 => ⟨S16x104x64, .f32⟩
  | 15 => ⟨S16x64, .f32⟩
  | 16 => ⟨S16x2x64x64, .f32⟩
  | 17 => ⟨S16x2x64, .f32⟩
  | 18 => ⟨S16x64x4, .f32⟩
  | 19 => ⟨S16x4, .f32⟩
  | 20 => ⟨S112x1, .f32⟩
  | 21 => ⟨S112x1, .f32⟩
  | 22 => ⟨S112x1, .f32⟩
  | 23 => ⟨S3x384x384, .f32⟩
  | 24 => ⟨S6x384x384, .f32⟩
  | 25 => ⟨S_, .f32⟩
  | 26 => ⟨S1x384x384, .f32⟩
  | 27 => ⟨S10x384x384, .f32⟩
  | 28 => ⟨S_, .i32⟩
  | 29 => ⟨S_, .f32⟩
  | 30 => ⟨S10x392x392, .f32⟩
  | 31 => ⟨S112x384x384, .f32⟩
  | 32 => ⟨S112x4x96x4x96, .f32⟩
  | 33 => ⟨S4x4x96x96x112, .f32⟩
  | 34 => ⟨S16x9216x112, .f32⟩
  | 35 => ⟨S_, .i32⟩
  | 36 => ⟨S_, .f32⟩
  | 37 => ⟨S16x105x64, .f32⟩
  | 38 => ⟨S16x1x64, .f32⟩
  | 39 => ⟨S_, .f32⟩
  | 40 => ⟨S16x6x64, .f32⟩
  | 41 => ⟨S16x112x64, .f32⟩
  | 42 => ⟨S16x112x1, .f32⟩
  | 43 => ⟨S16x112x65, .f32⟩
  | 44 => ⟨S_, .i32⟩
  | 45 => ⟨S_, .f32⟩
  | 46 => ⟨S16x105x64, .f32⟩
  | 47 => ⟨S16x1x64, .f32⟩
  | 48 => ⟨S_, .f32⟩
  | 49 => ⟨S16x6x64, .f32⟩
  | 50 => ⟨S16x112x64, .f32⟩
  | 51 => ⟨S16x112x1, .f32⟩
  | 52 => ⟨S16x112x65, .f32⟩
  | 53 => ⟨S_, .i32⟩
  | 54 => ⟨S_, .f32⟩
  | 55 => ⟨S16x105x64, .f32⟩
  | 56 => ⟨S16x1x64, .f32⟩
  | 57 => ⟨S_, .f32⟩
  | 58 => ⟨S16x6x64, .f32⟩
  | 59 => ⟨S16x112x64, .f32⟩
  | 60 => ⟨S16x112x1, .f32⟩
  | 61 => ⟨S16x112x65, .f32⟩
  | 62 => ⟨S16x1x112x65, .f32⟩
  | 63 => ⟨S16x1x112x65, .f32⟩
  | 64 => ⟨S16x1x112x65, .f32⟩
  | 65 => ⟨S16x3x112x65, .f32⟩
  | 66 => ⟨S64x64, .i32⟩
  | 67 => ⟨S64x64, .i32⟩
  | 68 => ⟨S_, .i32⟩
  | 69 => ⟨S64x64, .i32⟩
  | 70 => ⟨S64x64, .i32⟩
  | 71 => ⟨S64x64, .i1⟩
  | 72 => ⟨S64x64, .f32⟩
  | 73 => ⟨S1x1x64x64, .f32⟩
  | 74 => ⟨S16x2x64x64, .f32⟩
  | 75 => ⟨S16x2x64x64, .f32⟩
  | 76 => ⟨S_, .f32⟩
  | 77 => ⟨S16x2x64x1, .f32⟩
  | 78 => ⟨S16x2x64x65, .f32⟩
  | 79 => ⟨S_, .f32⟩
  | 80 => ⟨S16x2x1, .f32⟩
  | 81 => ⟨S16x2x65, .f32⟩
  | 82 => ⟨S16x2x1x65, .f32⟩
  | 83 => ⟨S16x2x65x65, .f32⟩
  | 84 => ⟨S64x64, .i32⟩
  | 85 => ⟨S64x64, .i32⟩
  | 86 => ⟨S_, .i32⟩
  | 87 => ⟨S64x64, .i32⟩
  | 88 => ⟨S64x64, .i32⟩
  | 89 => ⟨S64x64, .i1⟩
  | 90 => ⟨S64x64, .f32⟩
  | 91 => ⟨S1x1x64x64, .f32⟩
  | 92 => ⟨S16x2x64x64, .f32⟩
  | 93 => ⟨S16x2x64x64, .f32⟩
  | 94 => ⟨S_, .f32⟩
  | 95 => ⟨S16x2x64x1, .f32⟩
  | 96 => ⟨S16x2x64x65, .f32⟩
  | 97 => ⟨S_, .f32⟩
  | 98 => ⟨S16x2x1, .f32⟩
  | 99 => ⟨S16x2x65, .f32⟩
  | 100 => ⟨S16x2x1x65, .f32⟩
  | 101 => ⟨S16x2x65x65, .f32⟩
  | 102 => ⟨S64x64, .i32⟩
  | 103 => ⟨S64x64, .i32⟩
  | 104 => ⟨S_, .i32⟩
  | 105 => ⟨S64x64, .i32⟩
  | 106 => ⟨S64x64, .i32⟩
  | 107 => ⟨S64x64, .i1⟩
  | 108 => ⟨S64x64, .f32⟩
  | 109 => ⟨S1x1x64x64, .f32⟩
  | 110 => ⟨S16x2x64x64, .f32⟩
  | 111 => ⟨S16x2x64x64, .f32⟩
  | 112 => ⟨S_, .f32⟩
  | 113 => ⟨S16x2x64x1, .f32⟩
  | 114 => ⟨S16x2x64x65, .f32⟩
  | 115 => ⟨S_, .f32⟩
  | 116 => ⟨S16x2x1, .f32⟩
  | 117 => ⟨S16x2x65, .f32⟩
  | 118 => ⟨S16x2x1x65, .f32⟩
  | 119 => ⟨S16x2x65x65, .f32⟩
  | 120 => ⟨S16x1x2x65x65, .f32⟩
  | 121 => ⟨S16x1x2x65x65, .f32⟩
  | 122 => ⟨S16x1x2x65x65, .f32⟩
  | 123 => ⟨S16x3x2x65x65, .f32⟩
  | 124 => ⟨S16x1x4, .f32⟩
  | 125 => ⟨S16x65x4, .f32⟩
  | 126 => ⟨S16x1x4, .f32⟩
  | 127 => ⟨S16x65x4, .f32⟩
  | _ => ⟨S1x3x384x384, .f32⟩

abbrev hbmTy0_1 (i : Nat) : BufTy := match i % 128 with
  | 0 => ⟨S16x1x4, .f32⟩
  | 1 => ⟨S16x65x4, .f32⟩
  | 2 => ⟨S16x1x65x4, .f32⟩
  | 3 => ⟨S16x1x65x4, .f32⟩
  | 4 => ⟨S16x1x65x4, .f32⟩
  | 5 => ⟨S16x3x65x4, .f32⟩
  | 6 => ⟨S16x9216x12, .f32⟩
  | 7 => ⟨S4x4x96x96x3x4, .f32⟩
  | 8 => ⟨S4x96x4x96x3x4, .f32⟩
  | 9 => ⟨S147456x3x4, .f32⟩
  | _ => ⟨S1x3x384x384, .f32⟩

abbrev hbmTy (i : Nat) : BufTy := match i / 128 with
  | 0 => hbmTy0_0 i
  | 1 => hbmTy0_1 i
  | _ => ⟨S1x3x384x384, .f32⟩

abbrev bufTy : (tb : Table) → Fin (tcTables nBuf tb) → BufTy
  | .hbm, ⟨i, _⟩ => hbmTy i
  | .local _ .vmem, ⟨0, _⟩ => ⟨S10x392x392, .f32⟩
  | .local _ .vmem, ⟨1, _⟩ => ⟨S7x384x384, .f32⟩
  | .local _ .vmem, ⟨2, _⟩ => ⟨S7x384x384, .f32⟩
  | .local _ .vmem, ⟨3, _⟩ => ⟨S1x9216x112, .f32⟩
  | .local _ .vmem, ⟨4, _⟩ => ⟨S1x9216x112, .f32⟩
  | .local _ .vmem, ⟨5, _⟩ => ⟨S1x3x112x65, .f32⟩
  | .local _ .vmem, ⟨6, _⟩ => ⟨S1x3x112x65, .f32⟩
  | .local _ .vmem, ⟨7, _⟩ => ⟨S1x3x2x65x65, .f32⟩
  | .local _ .vmem, ⟨8, _⟩ => ⟨S1x3x2x65x65, .f32⟩
  | .local _ .vmem, ⟨9, _⟩ => ⟨S1x3x65x4, .f32⟩
  | .local _ .vmem, ⟨10, _⟩ => ⟨S1x3x65x4, .f32⟩
  | .local _ .vmem, ⟨11, _⟩ => ⟨S1x9216x12, .f32⟩
  | .local _ .vmem, ⟨12, _⟩ => ⟨S1x9216x12, .f32⟩
  | _, _ => ⟨S1x3x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_cst_0 : Ref sig .tc := ⟨.hbm, 21, rfl⟩
abbrev main_cst_1 : Ref sig .tc := ⟨.hbm, 22, rfl⟩
abbrev main_v0 : Ref sig .tc := ⟨.hbm, 23, rfl⟩
abbrev main_v1 : Ref sig .tc := ⟨.hbm, 24, rfl⟩
abbrev main_cst_2 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_call0_v0 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_c_3 : Ref sig .tc := ⟨.hbm, 35, rfl⟩
abbrev main_call1_v0 : Ref sig .tc := ⟨.hbm, 36, rfl⟩
abbrev main_v9 : Ref sig .tc := ⟨.hbm, 37, rfl⟩
abbrev main_v10 : Ref sig .tc := ⟨.hbm, 38, rfl⟩
abbrev main_cst_4 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_c_5 : Ref sig .tc := ⟨.hbm, 44, rfl⟩
abbrev main_call2_v0 : Ref sig .tc := ⟨.hbm, 45, rfl⟩
abbrev main_v15 : Ref sig .tc := ⟨.hbm, 46, rfl⟩
abbrev main_v16 : Ref sig .tc := ⟨.hbm, 47, rfl⟩
abbrev main_cst_6 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_c_7 : Ref sig .tc := ⟨.hbm, 53, rfl⟩
abbrev main_call3_v0 : Ref sig .tc := ⟨.hbm, 54, rfl⟩
abbrev main_v21 : Ref sig .tc := ⟨.hbm, 55, rfl⟩
abbrev main_v22 : Ref sig .tc := ⟨.hbm, 56, rfl⟩
abbrev main_cst_8 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_c_9 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_10 : Ref sig .tc := ⟨.hbm, 76, rfl⟩
abbrev main_v40 : Ref sig .tc := ⟨.hbm, 77, rfl⟩
abbrev main_v41 : Ref sig .tc := ⟨.hbm, 78, rfl⟩
abbrev main_cst_11 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_c_12 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_13 : Ref sig .tc := ⟨.hbm, 94, rfl⟩
abbrev main_v55 : Ref sig .tc := ⟨.hbm, 95, rfl⟩
abbrev main_v56 : Ref sig .tc := ⟨.hbm, 96, rfl⟩
abbrev main_cst_14 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_c_15 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_16 : Ref sig .tc := ⟨.hbm, 112, rfl⟩
abbrev main_v70 : Ref sig .tc := ⟨.hbm, 113, rfl⟩
abbrev main_v71 : Ref sig .tc := ⟨.hbm, 114, rfl⟩
abbrev main_cst_17 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 32 := Scalar.maxsi arg0 c0_i32
  let c15_i32 : BitVec 32 := 15#32
  let v1 : BitVec 32 := Scalar.minsi v0 c15_i32
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32 : BitVec 32 := 0#32
  let v0 : BitVec 32 := Scalar.maxsi arg0 c0_i32
  let c15_i32 : BitVec 32 := 15#32
  let v1 : BitVec 32 := Scalar.minsi v0 c15_i32
  let c1_i32 : BitVec 32 := 1#32
  let v3 : BitVec 32 := Scalar.subi v1 c1_i32
  let c0_i32_1 : BitVec 32 := 0#32
  let v4 : BitVec 1 := Scalar.cmpi .ne v3 c0_i32_1
  v4

def k0_cond3 (i : grid0.Coords) : BitVec 1 :=
  let arg0 : BitVec 32 := BitVec.ofNat 32 (i 0).val
  let c0_i32 : BitVec 32 := 0#32
  let v0 : BitVec 32 := Scalar.maxsi arg0 c0_i32
  let c15_i32 : BitVec 32 := 15#32
  let v1 : BitVec 32 := Scalar.minsi v0 c15_i32
  let c1_i32 : BitVec 32 := 1#32
  let v3 : BitVec 32 := Scalar.subi v1 c1_i32
  let c1_i32_2 : BitVec 32 := 1#32
  let v5 : BitVec 32 := Scalar.subi v3 c1_i32_2
  let c0_i32_3 : BitVec 32 := 0#32
  let v6 : BitVec 1 := Scalar.cmpi .ne v5 c0_i32_3
  v6

def k0_cond4 (i : grid0.Coords) : BitVec 1 :=
  let arg0 : BitVec 32 := BitVec.ofNat 32 (i 0).val
  let c0_i32 : BitVec 32 := 0#32
  let v0 : BitVec 32 := Scalar.maxsi arg0 c0_i32
  let c15_i32 : BitVec 32 := 15#32
  let v1 : BitVec 32 := Scalar.minsi v0 c15_i32
  let c1_i32 : BitVec 32 := 1#32
  let v3 : BitVec 32 := Scalar.subi v1 c1_i32
  let c1_i32_2 : BitVec 32 := 1#32
  let v5 : BitVec 32 := Scalar.subi v3 c1_i32_2
  let c1_i32_4 : BitVec 32 := 1#32
  let v7 : BitVec 32 := Scalar.subi v5 c1_i32_4
  let c0_i32_5 : BitVec 32 := 0#32
  let v8 : BitVec 1 := Scalar.cmpi .ne v7 c0_i32_5
  v8

def k0_cond5 (i : grid0.Coords) : BitVec 1 :=
  let arg0 : BitVec 32 := BitVec.ofNat 32 (i 0).val
  let c0_i32 : BitVec 32 := 0#32
  let v0 : BitVec 32 := Scalar.maxsi arg0 c0_i32
  let c15_i32 : BitVec 32 := 15#32
  let v1 : BitVec 32 := Scalar.minsi v0 c15_i32
  let c1_i32 : BitVec 32 := 1#32
  let v3 : BitVec 32 := Scalar.subi v1 c1_i32
  let c1_i32_2 : BitVec 32 := 1#32
  let v5 : BitVec 32 := Scalar.subi v3 c1_i32_2
  let c1_i32_4 : BitVec 32 := 1#32
  let v7 : BitVec 32 := Scalar.subi v5 c1_i32_4
  let c1_i32_6 : BitVec 32 := 1#32
  let v9 : BitVec 32 := Scalar.subi v7 c1_i32_6
  let c0_i32_7 : BitVec 32 := 0#32
  let v10 : BitVec 1 := Scalar.cmpi .ne v9 c0_i32_7
  v10

def k0_cond6 (i : grid0.Coords) : BitVec 1 :=
  let arg0 : BitVec 32 := BitVec.ofNat 32 (i 0).val
  let c0_i32 : BitVec 32 := 0#32
  let v0 : BitVec 32 := Scalar.maxsi arg0 c0_i32
  let c15_i32 : BitVec 32 := 15#32
  let v1 : BitVec 32 := Scalar.minsi v0 c15_i32
  let c1_i32 : BitVec 32 := 1#32
  let v3 : BitVec 32 := Scalar.subi v1 c1_i32
  let c1_i32_2 : BitVec 32 := 1#32
  let v5 : BitVec 32 := Scalar.subi v3 c1_i32_2
  let c1_i32_4 : BitVec 32 := 1#32
  let v7 : BitVec 32 := Scalar.subi v5 c1_i32_4
  let c1_i32_6 : BitVec 32 := 1#32
  let v9 : BitVec 32 := Scalar.subi v7 c1_i32_6
  let c1_i32_8 : BitVec 32 := 1#32
  let v11 : BitVec 32 := Scalar.subi v9 c1_i32_8
  let c0_i32_9 : BitVec 32 := 0#32
  let v12 : BitVec 1 := Scalar.cmpi .ne v11 c0_i32_9
  v12

def k0_cond7 (i : grid0.Coords) : BitVec 1 :=
  let arg0 : BitVec 32 := BitVec.ofNat 32 (i 0).val
  let c0_i32 : BitVec 32 := 0#32
  let v0 : BitVec 32 := Scalar.maxsi arg0 c0_i32
  let c15_i32 : BitVec 32 := 15#32
  let v1 : BitVec 32 := Scalar.minsi v0 c15_i32
  let c1_i32 : BitVec 32 := 1#32
  let v3 : BitVec 32 := Scalar.subi v1 c1_i32
  let c1_i32_2 : BitVec 32 := 1#32
  let v5 : BitVec 32 := Scalar.subi v3 c1_i32_2
  let c1_i32_4 : BitVec 32 := 1#32
  let v7 : BitVec 32 := Scalar.subi v5 c1_i32_4
  let c1_i32_6 : BitVec 32 := 1#32
  let v9 : BitVec 32 := Scalar.subi v7 c1_i32_6
  let c1_i32_8 : BitVec 32 := 1#32
  let v11 : BitVec 32 := Scalar.subi v9 c1_i32_8
  let c1_i32_10 : BitVec 32 := 1#32
  let v13 : BitVec 32 := Scalar.subi v11 c1_i32_10
  let c0_i32_11 : BitVec 32 := 0#32
  let v14 : BitVec 1 := Scalar.cmpi .ne v13 c0_i32_11
  v14

def k0_cond8 (i : grid0.Coords) : BitVec 1 :=
  let arg0 : BitVec 32 := BitVec.ofNat 32 (i 0).val
  let c0_i32 : BitVec 32 := 0#32
  let v0 : BitVec 32 := Scalar.maxsi arg0 c0_i32
  let c15_i32 : BitVec 32 := 15#32
  let v1 : BitVec 32 := Scalar.minsi v0 c15_i32
  let c1_i32 : BitVec 32 := 1#32
  let v3 : BitVec 32 := Scalar.subi v1 c1_i32
  let c1_i32_2 : BitVec 32 := 1#32
  let v5 : BitVec 32 := Scalar.subi v3 c1_i32_2
  let c1_i32_4 : BitVec 32 := 1#32
  let v7 : BitVec 32 := Scalar.subi v5 c1_i32_4
  let c1_i32_6 : BitVec 32 := 1#32
  let v9 : BitVec 32 := Scalar.subi v7 c1_i32_6
  let c1_i32_8 : BitVec 32 := 1#32
  let v11 : BitVec 32 := Scalar.subi v9 c1_i32_8
  let c1_i32_10 : BitVec 32 := 1#32
  let v13 : BitVec 32 := Scalar.subi v11 c1_i32_10
  let c1_i32_12 : BitVec 32 := 1#32
  let v15 : BitVec 32 := Scalar.subi v13 c1_i32_12
  let c0_i32_13 : BitVec 32 := 0#32
  let v16 : BitVec 1 := Scalar.cmpi .ne v15 c0_i32_13
  v16

def k0_cond9 (i : grid0.Coords) : BitVec 1 :=
  let arg0 : BitVec 32 := BitVec.ofNat 32 (i 0).val
  let c0_i32 : BitVec 32 := 0#32
  let v0 : BitVec 32 := Scalar.maxsi arg0 c0_i32
  let c15_i32 : BitVec 32 := 15#32
  let v1 : BitVec 32 := Scalar.minsi v0 c15_i32
  let c1_i32 : BitVec 32 := 1#32
  let v3 : BitVec 32 := Scalar.subi v1 c1_i32
  let c1_i32_2 : BitVec 32 := 1#32
  let v5 : BitVec 32 := Scalar.subi v3 c1_i32_2
  let c1_i32_4 : BitVec 32 := 1#32
  let v7 : BitVec 32 := Scalar.subi v5 c1_i32_4
  let c1_i32_6 : BitVec 32 := 1#32
  let v9 : BitVec 32 := Scalar.subi v7 c1_i32_6
  let c1_i32_8 : BitVec 32 := 1#32
  let v11 : BitVec 32 := Scalar.subi v9 c1_i32_8
  let c1_i32_10 : BitVec 32 := 1#32
  let v13 : BitVec 32 := Scalar.subi v11 c1_i32_10
  let c1_i32_12 : BitVec 32 := 1#32
  let v15 : BitVec 32 := Scalar.subi v13 c1_i32_12
  let c1_i32_14 : BitVec 32 := 1#32
  let v17 : BitVec 32 := Scalar.subi v15 c1_i32_14
  let c0_i32_15 : BitVec 32 := 0#32
  let v18 : BitVec 1 := Scalar.cmpi .ne v17 c0_i32_15
  v18

def k0_cond10 (i : grid0.Coords) : BitVec 1 :=
  let arg0 : BitVec 32 := BitVec.ofNat 32 (i 0).val
  let c0_i32 : BitVec 32 := 0#32
  let v0 : BitVec 32 := Scalar.maxsi arg0 c0_i32
  let c15_i32 : BitVec 32 := 15#32
  let v1 : BitVec 32 := Scalar.minsi v0 c15_i32
  let c1_i32 : BitVec 32 := 1#32
  let v3 : BitVec 32 := Scalar.subi v1 c1_i32
  let c1_i32_2 : BitVec 32 := 1#32
  let v5 : BitVec 32 := Scalar.subi v3 c1_i32_2
  let c1_i32_4 : BitVec 32 := 1#32
  let v7 : BitVec 32 := Scalar.subi v5 c1_i32_4
  let c1_i32_6 : BitVec 32 := 1#32
  let v9 : BitVec 32 := Scalar.subi v7 c1_i32_6
  let c1_i32_8 : BitVec 32 := 1#32
  let v11 : BitVec 32 := Scalar.subi v9 c1_i32_8
  let c1_i32_10 : BitVec 32 := 1#32
  let v13 : BitVec 32 := Scalar.subi v11 c1_i32_10
  let c1_i32_12 : BitVec 32 := 1#32
  let v15 : BitVec 32 := Scalar.subi v13 c1_i32_12
  let c1_i32_14 : BitVec 32 := 1#32
  let v17 : BitVec 32 := Scalar.subi v15 c1_i32_14
  let c1_i32_16 : BitVec 32 := 1#32
  let v19 : BitVec 32 := Scalar.subi v17 c1_i32_16
  let c0_i32_17 : BitVec 32 := 0#32
  let v20 : BitVec 1 := Scalar.cmpi .ne v19 c0_i32_17
  v20

def k0_cond11 (i : grid0.Coords) : BitVec 1 :=
  let arg0 : BitVec 32 := BitVec.ofNat 32 (i 0).val
  let c0_i32 : BitVec 32 := 0#32
  let v0 : BitVec 32 := Scalar.maxsi arg0 c0_i32
  let c15_i32 : BitVec 32 := 15#32
  let v1 : BitVec 32 := Scalar.minsi v0 c15_i32
  let c1_i32 : BitVec 32 := 1#32
  let v3 : BitVec 32 := Scalar.subi v1 c1_i32
  let c1_i32_2 : BitVec 32 := 1#32
  let v5 : BitVec 32 := Scalar.subi v3 c1_i32_2
  let c1_i32_4 : BitVec 32 := 1#32
  let v7 : BitVec 32 := Scalar.subi v5 c1_i32_4
  let c1_i32_6 : BitVec 32 := 1#32
  let v9 : BitVec 32 := Scalar.subi v7 c1_i32_6
  let c1_i32_8 : BitVec 32 := 1#32
  let v11 : BitVec 32 := Scalar.subi v9 c1_i32_8
  let c1_i32_10 : BitVec 32 := 1#32
  let v13 : BitVec 32 := Scalar.subi v11 c1_i32_10
  let c1_i32_12 : BitVec 32 := 1#32
  let v15 : BitVec 32 := Scalar.subi v13 c1_i32_12
  let c1_i32_14 : BitVec 32 := 1#32
  let v17 : BitVec 32 := Scalar.subi v15 c1_i32_14
  let c1_i32_16 : BitVec 32 := 1#32
  let v19 : BitVec 32 := Scalar.subi v17 c1_i32_16
  let c1_i32_18 : BitVec 32 := 1#32
  let v21 : BitVec 32 := Scalar.subi v19 c1_i32_18
  let c0_i32_19 : BitVec 32 := 0#32
  let v22 : BitVec 1 := Scalar.cmpi .ne v21 c0_i32_19
  v22

def k0_cond12 (i : grid0.Coords) : BitVec 1 :=
  let arg0 : BitVec 32 := BitVec.ofNat 32 (i 0).val
  let c0_i32 : BitVec 32 := 0#32
  let v0 : BitVec 32 := Scalar.maxsi arg0 c0_i32
  let c15_i32 : BitVec 32 := 15#32
  let v1 : BitVec 32 := Scalar.minsi v0 c15_i32
  let c1_i32 : BitVec 32 := 1#32
  let v3 : BitVec 32 := Scalar.subi v1 c1_i32
  let c1_i32_2 : BitVec 32 := 1#32
  let v5 : BitVec 32 := Scalar.subi v3 c1_i32_2
  let c1_i32_4 : BitVec 32 := 1#32
  let v7 : BitVec 32 := Scalar.subi v5 c1_i32_4
  let c1_i32_6 : BitVec 32 := 1#32
  let v9 : BitVec 32 := Scalar.subi v7 c1_i32_6
  let c1_i32_8 : BitVec 32 := 1#32
  let v11 : BitVec 32 := Scalar.subi v9 c1_i32_8
  let c1_i32_10 : BitVec 32 := 1#32
  let v13 : BitVec 32 := Scalar.subi v11 c1_i32_10
  let c1_i32_12 : BitVec 32 := 1#32
  let v15 : BitVec 32 := Scalar.subi v13 c1_i32_12
  let c1_i32_14 : BitVec 32 := 1#32
  let v17 : BitVec 32 := Scalar.subi v15 c1_i32_14
  let c1_i32_16 : BitVec 32 := 1#32
  let v19 : BitVec 32 := Scalar.subi v17 c1_i32_16
  let c1_i32_18 : BitVec 32 := 1#32
  let v21 : BitVec 32 := Scalar.subi v19 c1_i32_18
  let c1_i32_20 : BitVec 32 := 1#32
  let v23 : BitVec 32 := Scalar.subi v21 c1_i32_20
  let c0_i32_21 : BitVec 32 := 0#32
  let v24 : BitVec 1 := Scalar.cmpi .ne v23 c0_i32_21
  v24

def k0_cond13 (i : grid0.Coords) : BitVec 1 :=
  let arg0 : BitVec 32 := BitVec.ofNat 32 (i 0).val
  let c0_i32 : BitVec 32 := 0#32
  let v0 : BitVec 32 := Scalar.maxsi arg0 c0_i32
  let c15_i32 : BitVec 32 := 15#32
  let v1 : BitVec 32 := Scalar.minsi v0 c15_i32
  let c1_i32 : BitVec 32 := 1#32
  let v3 : BitVec 32 := Scalar.subi v1 c1_i32
  let c1_i32_2 : BitVec 32 := 1#32
  let v5 : BitVec 32 := Scalar.subi v3 c1_i32_2
  let c1_i32_4 : BitVec 32 := 1#32
  let v7 : BitVec 32 := Scalar.subi v5 c1_i32_4
  let c1_i32_6 : BitVec 32 := 1#32
  let v9 : BitVec 32 := Scalar.subi v7 c1_i32_6
  let c1_i32_8 : BitVec 32 := 1#32
  let v11 : BitVec 32 := Scalar.subi v9 c1_i32_8
  let c1_i32_10 : BitVec 32 := 1#32
  let v13 : BitVec 32 := Scalar.subi v11 c1_i32_10
  let c1_i32_12 : BitVec 32 := 1#32
  let v15 : BitVec 32 := Scalar.subi v13 c1_i32_12
  let c1_i32_14 : BitVec 32 := 1#32
  let v17 : BitVec 32 := Scalar.subi v15 c1_i32_14
  let c1_i32_16 : BitVec 32 := 1#32
  let v19 : BitVec 32 := Scalar.subi v17 c1_i32_16
  let c1_i32_18 : BitVec 32 := 1#32
  let v21 : BitVec 32 := Scalar.subi v19 c1_i32_18
  let c1_i32_20 : BitVec 32 := 1#32
  let v23 : BitVec 32 := Scalar.subi v21 c1_i32_20
  let c1_i32_22 : BitVec 32 := 1#32
  let v25 : BitVec 32 := Scalar.subi v23 c1_i32_22
  let c0_i32_23 : BitVec 32 := 0#32
  let v26 : BitVec 1 := Scalar.cmpi .ne v25 c0_i32_23
  v26

def k0_cond14 (i : grid0.Coords) : BitVec 1 :=
  let arg0 : BitVec 32 := BitVec.ofNat 32 (i 0).val
  let c0_i32 : BitVec 32 := 0#32
  let v0 : BitVec 32 := Scalar.maxsi arg0 c0_i32
  let c15_i32 : BitVec 32 := 15#32
  let v1 : BitVec 32 := Scalar.minsi v0 c15_i32
  let c1_i32 : BitVec 32 := 1#32
  let v3 : BitVec 32 := Scalar.subi v1 c1_i32
  let c1_i32_2 : BitVec 32 := 1#32
  let v5 : BitVec 32 := Scalar.subi v3 c1_i32_2
  let c1_i32_4 : BitVec 32 := 1#32
  let v7 : BitVec 32 := Scalar.subi v5 c1_i32_4
  let c1_i32_6 : BitVec 32 := 1#32
  let v9 : BitVec 32 := Scalar.subi v7 c1_i32_6
  let c1_i32_8 : BitVec 32 := 1#32
  let v11 : BitVec 32 := Scalar.subi v9 c1_i32_8
  let c1_i32_10 : BitVec 32 := 1#32
  let v13 : BitVec 32 := Scalar.subi v11 c1_i32_10
  let c1_i32_12 : BitVec 32 := 1#32
  let v15 : BitVec 32 := Scalar.subi v13 c1_i32_12
  let c1_i32_14 : BitVec 32 := 1#32
  let v17 : BitVec 32 := Scalar.subi v15 c1_i32_14
  let c1_i32_16 : BitVec 32 := 1#32
  let v19 : BitVec 32 := Scalar.subi v17 c1_i32_16
  let c1_i32_18 : BitVec 32 := 1#32
  let v21 : BitVec 32 := Scalar.subi v19 c1_i32_18
  let c1_i32_20 : BitVec 32 := 1#32
  let v23 : BitVec 32 := Scalar.subi v21 c1_i32_20
  let c1_i32_22 : BitVec 32 := 1#32
  let v25 : BitVec 32 := Scalar.subi v23 c1_i32_22
  let c1_i32_24 : BitVec 32 := 1#32
  let v27 : BitVec 32 := Scalar.subi v25 c1_i32_24
  let c0_i32_25 : BitVec 32 := 0#32
  let v28 : BitVec 1 := Scalar.cmpi .ne v27 c0_i32_25
  v28

def k0_cond15 (i : grid0.Coords) : BitVec 1 :=
  let arg0 : BitVec 32 := BitVec.ofNat 32 (i 0).val
  let c0_i32 : BitVec 32 := 0#32
  let v0 : BitVec 32 := Scalar.maxsi arg0 c0_i32
  let c15_i32 : BitVec 32 := 15#32
  let v1 : BitVec 32 := Scalar.minsi v0 c15_i32
  let c1_i32 : BitVec 32 := 1#32
  let v3 : BitVec 32 := Scalar.subi v1 c1_i32
  let c1_i32_2 : BitVec 32 := 1#32
  let v5 : BitVec 32 := Scalar.subi v3 c1_i32_2
  let c1_i32_4 : BitVec 32 := 1#32
  let v7 : BitVec 32 := Scalar.subi v5 c1_i32_4
  let c1_i32_6 : BitVec 32 := 1#32
  let v9 : BitVec 32 := Scalar.subi v7 c1_i32_6
  let c1_i32_8 : BitVec 32 := 1#32
  let v11 : BitVec 32 := Scalar.subi v9 c1_i32_8
  let c1_i32_10 : BitVec 32 := 1#32
  let v13 : BitVec 32 := Scalar.subi v11 c1_i32_10
  let c1_i32_12 : BitVec 32 := 1#32
  let v15 : BitVec 32 := Scalar.subi v13 c1_i32_12
  let c1_i32_14 : BitVec 32 := 1#32
  let v17 : BitVec 32 := Scalar.subi v15 c1_i32_14
  let c1_i32_16 : BitVec 32 := 1#32
  let v19 : BitVec 32 := Scalar.subi v17 c1_i32_16
  let c1_i32_18 : BitVec 32 := 1#32
  let v21 : BitVec 32 := Scalar.subi v19 c1_i32_18
  let c1_i32_20 : BitVec 32 := 1#32
  let v23 : BitVec 32 := Scalar.subi v21 c1_i32_20
  let c1_i32_22 : BitVec 32 := 1#32
  let v25 : BitVec 32 := Scalar.subi v23 c1_i32_22
  let c1_i32_24 : BitVec 32 := 1#32
  let v27 : BitVec 32 := Scalar.subi v25 c1_i32_24
  let c1_i32_26 : BitVec 32 := 1#32
  let v29 : BitVec 32 := Scalar.subi v27 c1_i32_26
  let c0_i32_27 : BitVec 32 := 0#32
  let v30 : BitVec 1 := Scalar.cmpi .ne v29 c0_i32_27
  v30

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S10x392x392 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S7x384x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x9216x112 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x3x112x65 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x3x2x65x65 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x3x65x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x9216x12 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S1x3x384x384 : Shape := ⟨4, ![1, 3, 384, 384]⟩
abbrev S1x6x384x384 : Shape := ⟨4, ![1, 6, 384, 384]⟩
abbrev S16x102x64 : Shape := ⟨3, ![16, 102, 64]⟩
abbrev S16x64 : Shape := ⟨2, ![16, 64]⟩
abbrev S16x2x64x64 : Shape := ⟨4, ![16, 2, 64, 64]⟩
abbrev S16x2x64 : Shape := ⟨3, ![16, 2, 64]⟩
abbrev S16x64x4 : Shape := ⟨3, ![16, 64, 4]⟩
abbrev S16x4 : Shape := ⟨2, ![16, 4]⟩
abbrev S16x103x64 : Shape := ⟨3, ![16, 103, 64]⟩
abbrev S16x104x64 : Shape := ⟨3, ![16, 104, 64]⟩
abbrev S3x384x384 : Shape := ⟨3, ![3, 384, 384]⟩
abbrev S_ : Shape := ⟨0, ![]⟩
abbrev S3x392x392 : Shape := ⟨3, ![3, 392, 392]⟩
abbrev S3x1x384x384 : Shape := ⟨4, ![3, 1, 384, 384]⟩
abbrev S3x16x384x384 : Shape := ⟨4, ![3, 16, 384, 384]⟩
abbrev S3x32x384x384 : Shape := ⟨4, ![3, 32, 384, 384]⟩
abbrev S96x147456 : Shape := ⟨2, ![96, 147456]⟩
abbrev S147456x96 : Shape := ⟨2, ![147456, 96]⟩
abbrev S6x384x384 : Shape := ⟨3, ![6, 384, 384]⟩
abbrev S6x147456 : Shape := ⟨2, ![6, 147456]⟩
abbrev S147456x6 : Shape := ⟨2, ![147456, 6]⟩
abbrev S3x147456 : Shape := ⟨2, ![3, 147456]⟩
abbrev S147456x3 : Shape := ⟨2, ![147456, 3]⟩
abbrev S384x384 : Shape := ⟨2, ![384, 384]⟩
abbrev S147456 : Shape := ⟨1, ![147456]⟩
abbrev S147456x102 : Shape := ⟨2, ![147456, 102]⟩
abbrev S147456x1 : Shape := ⟨2, ![147456, 1]⟩
abbrev S147456x102x64 : Shape := ⟨3, ![147456, 102, 64]⟩
abbrev S147456x64 : Shape := ⟨2, ![147456, 64]⟩
abbrev S147456x2x64x64 : Shape := ⟨4, ![147456, 2, 64, 64]⟩
abbrev S147456x2x64 : Shape := ⟨3, ![147456, 2, 64]⟩
abbrev S147456x64x4 : Shape := ⟨3, ![147456, 64, 4]⟩
abbrev S147456x4 : Shape := ⟨2, ![147456, 4]⟩
abbrev S147456x1x64x64 : Shape := ⟨4, ![147456, 1, 64, 64]⟩
abbrev S147456x64x64 : Shape := ⟨3, ![147456, 64, 64]⟩
abbrev S147456x1x64 : Shape := ⟨3, ![147456, 1, 64]⟩
abbrev S147456x103 : Shape := ⟨2, ![147456, 103]⟩
abbrev S147456x103x64 : Shape := ⟨3, ![147456, 103, 64]⟩
abbrev S147456x2 : Shape := ⟨2, ![147456, 2]⟩
abbrev S147456x104 : Shape := ⟨2, ![147456, 104]⟩
abbrev S147456x104x64 : Shape := ⟨3, ![147456, 104, 64]⟩
abbrev S147456x1x4 : Shape := ⟨3, ![147456, 1, 4]⟩
abbrev S147456x3x4 : Shape := ⟨3, ![147456, 3, 4]⟩

abbrev nBuf : Space → Nat
  | .hbm => 363
  | .vmem => 0
  | .smem => 0
  | _ => 0

abbrev hbmTy0_0 (i : Nat) : BufTy := match i % 128 with
  | 0 => ⟨S1x3x384x384, .f32⟩
  | 1 => ⟨S1x6x384x384, .f32⟩
  | 2 => ⟨S16x102x64, .f32⟩
  | 3 => ⟨S16x64, .f32⟩
  | 4 => ⟨S16x2x64x64, .f32⟩
  | 5 => ⟨S16x2x64, .f32⟩
  | 6 => ⟨S16x64x4, .f32⟩
  | 7 => ⟨S16x4, .f32⟩
  | 8 => ⟨S16x103x64, .f32⟩
  | 9 => ⟨S16x64, .f32⟩
  | 10 => ⟨S16x2x64x64, .f32⟩
  | 11 => ⟨S16x2x64, .f32⟩
  | 12 => ⟨S16x64x4, .f32⟩
  | 13 => ⟨S16x4, .f32⟩
  | 14 => ⟨S16x104x64, .f32⟩
  | 15 => ⟨S16x64, .f32⟩
  | 16 => ⟨S16x2x64x64, .f32⟩
  | 17 => ⟨S16x2x64, .f32⟩
  | 18 => ⟨S16x64x4, .f32⟩
  | 19 => ⟨S16x4, .f32⟩
  | 20 => ⟨S3x384x384, .f32⟩
  | 21 => ⟨S_, .f32⟩
  | 22 => ⟨S3x392x392, .f32⟩
  | 23 => ⟨S3x384x384, .f32⟩
  | 24 => ⟨S3x384x384, .f32⟩
  | 25 => ⟨S3x384x384, .f32⟩
  | 26 => ⟨S3x384x384, .f32⟩
  | 27 => ⟨S3x384x384, .f32⟩
  | 28 => ⟨S3x384x384, .f32⟩
  | 29 => ⟨S3x384x384, .f32⟩
  | 30 => ⟨S3x384x384, .f32⟩
  | 31 => ⟨S3x384x384, .f32⟩
  | 32 => ⟨S3x384x384, .f32⟩
  | 33 => ⟨S3x384x384, .f32⟩
  | 34 => ⟨S3x384x384, .f32⟩
  | 35 => ⟨S3x384x384, .f32⟩
  | 36 => ⟨S3x384x384, .f32⟩
  | 37 => ⟨S3x384x384, .f32⟩
  | 38 => ⟨S3x384x384, .f32⟩
  | 39 => ⟨S3x384x384, .f32⟩
  | 40 => ⟨S3x384x384, .f32⟩
  | 41 => ⟨S3x384x384, .f32⟩
  | 42 => ⟨S3x384x384, .f32⟩
  | 43 => ⟨S3x384x384, .f32⟩
  | 44 => ⟨S3x384x384, .f32⟩
  | 45 => ⟨S3x384x384, .f32⟩
  | 46 => ⟨S3x384x384, .f32⟩
  | 47 => ⟨S3x384x384, .f32⟩
  | 48 => ⟨S3x384x384, .f32⟩
  | 49 => ⟨S3x384x384, .f32⟩
  | 50 => ⟨S3x384x384, .f32⟩
  | 51 => ⟨S3x384x384, .f32⟩
  | 52 => ⟨S3x384x384, .f32⟩
  | 53 => ⟨S3x384x384, .f32⟩
  | 54 => ⟨S3x384x384, .f32⟩
  | 55 => ⟨S3x1x384x384, .f32⟩
  | 56 => ⟨S3x1x384x384, .f32⟩
  | 57 => ⟨S3x1x384x384, .f32⟩
  | 58 => ⟨S3x1x384x384, .f32⟩
  | 59 => ⟨S3x1x384x384, .f32⟩
  | 60 => ⟨S3x1x384x384, .f32⟩
  | 61 => ⟨S3x1x384x384, .f32⟩
  | 62 => ⟨S3x1x384x384, .f32⟩
  | 63 => ⟨S3x1x384x384, .f32⟩
  | 64 => ⟨S3x1x384x384, .f32⟩
  | 65 => ⟨S3x1x384x384, .f32⟩
  | 66 => ⟨S3x1x384x384, .f32⟩
  | 67 => ⟨S3x1x384x384, .f32⟩
  | 68 => ⟨S3x1x384x384, .f32⟩
  | 69 => ⟨S3x1x384x384, .f32⟩
  | 70 => ⟨S3x1x384x384, .f32⟩
  | 71 => ⟨S3x1x384x384, .f32⟩
  | 72 => ⟨S3x1x384x384, .f32⟩
  | 73 => ⟨S3x1x384x384, .f32⟩
  | 74 => ⟨S3x1x384x384, .f32⟩
  | 75 => ⟨S3x1x384x384, .f32⟩
  | 76 => ⟨S3x1x384x384, .f32⟩
  | 77 => ⟨S3x1x384x384, .f32⟩
  | 78 => ⟨S3x1x384x384, .f32⟩
  | 79 => ⟨S3x1x384x384, .f32⟩
  | 80 => ⟨S3x1x384x384, .f32⟩
  | 81 => ⟨S3x1x384x384, .f32⟩
  | 82 => ⟨S3x1x384x384, .f32⟩
  | 83 => ⟨S3x1x384x384, .f32⟩
  | 84 => ⟨S3x1x384x384, .f32⟩
  | 85 => ⟨S3x1x384x384, .f32⟩
  | 86 => ⟨S3x1x384x384, .f32⟩
  | 87 => ⟨S3x16x384x384, .f32⟩
  | 88 => ⟨S3x16x384x384, .f32⟩
  | 89 => ⟨S3x32x384x384, .f32⟩
  | 90 => ⟨S96x147456, .f32⟩
  | 91 => ⟨S147456x96, .f32⟩
  | 92 => ⟨S6x384x384, .f32⟩
  | 93 => ⟨S6x147456, .f32⟩
  | 94 => ⟨S147456x6, .f32⟩
  | 95 => ⟨S3x384x384, .f32⟩
  | 96 => ⟨S3x147456, .f32⟩
  | 97 => ⟨S147456x3, .f32⟩
  | 98 => ⟨S384x384, .i32⟩
  | 99 => ⟨S384x384, .i32⟩
  | 100 => ⟨S_, .i32⟩
  | 101 => ⟨S384x384, .i32⟩
  | 102 => ⟨S384x384, .i32⟩
  | 103 => ⟨S_, .i32⟩
  | 104 => ⟨S384x384, .i32⟩
  | 105 => ⟨S384x384, .i32⟩
  | 106 => ⟨S_, .i32⟩
  | 107 => ⟨S384x384, .i32⟩
  | 108 => ⟨S384x384, .i32⟩
  | 109 => ⟨S384x384, .i32⟩
  | 110 => ⟨S147456, .i32⟩
  | 111 => ⟨S147456x102, .f32⟩
  | 112 => ⟨S_, .i32⟩
  | 113 => ⟨S147456, .i32⟩
  | 114 => ⟨S147456, .i1⟩
  | 115 => ⟨S_, .i32⟩
  | 116 => ⟨S147456, .i32⟩
  | 117 => ⟨S147456, .i32⟩
  | 118 => ⟨S147456, .i32⟩
  | 119 => ⟨S147456x1, .i32⟩
  | 120 => ⟨S147456x102x64, .f32⟩
  | 121 => ⟨S_, .i32⟩
  | 122 => ⟨S147456, .i32⟩
  | 123 => ⟨S147456, .i1⟩
  | 124 => ⟨S_, .i32⟩
  | 125 => ⟨S147456, .i32⟩
  | 126 => ⟨S147456, .i32⟩
  | 127 => ⟨S147456, .i32⟩
  | _ => ⟨S1x3x384x384, .f32⟩

abbrev hbmTy0_1 (i : Nat) : BufTy := match i % 128 with
  | 0 => ⟨S147456x1, .i32⟩
  | 1 => ⟨S147456x64, .f32⟩
  | 2 => ⟨S_, .i32⟩
  | 3 => ⟨S147456, .i32⟩
  | 4 => ⟨S147456, .i1⟩
  | 5 => ⟨S_, .i32⟩
  | 6 => ⟨S147456, .i32⟩
  | 7 => ⟨S147456, .i32⟩
  | 8 => ⟨S147456, .i32⟩
  | 9 => ⟨S147456x1, .i32⟩
  | 10 => ⟨S147456x2x64x64, .f32⟩
  | 11 => ⟨S_, .i32⟩
  | 12 => ⟨S147456, .i32⟩
  | 13 => ⟨S147456, .i1⟩
  | 14 => ⟨S_, .i32⟩
  | 15 => ⟨S147456, .i32⟩
  | 16 => ⟨S147456, .i32⟩
  | 17 => ⟨S147456, .i32⟩
  | 18 => ⟨S147456x1, .i32⟩
  | 19 => ⟨S147456x2x64, .f32⟩
  | 20 => ⟨S_, .i32⟩
  | 21 => ⟨S147456, .i32⟩
  | 22 => ⟨S147456, .i1⟩
  | 23 => ⟨S_, .i32⟩
  | 24 => ⟨S147456, .i32⟩
  | 25 => ⟨S147456, .i32⟩
  | 26 => ⟨S147456, .i32⟩
  | 27 => ⟨S147456x1, .i32⟩
  | 28 => ⟨S147456x64x4, .f32⟩
  | 29 => ⟨S_, .i32⟩
  | 30 => ⟨S147456, .i32⟩
  | 31 => ⟨S147456, .i1⟩
  | 32 => ⟨S_, .i32⟩
  | 33 => ⟨S147456, .i32⟩
  | 34 => ⟨S147456, .i32⟩
  | 35 => ⟨S147456, .i32⟩
  | 36 => ⟨S147456x1, .i32⟩
  | 37 => ⟨S147456x4, .f32⟩
  | 38 => ⟨S147456x64, .f32⟩
  | 39 => ⟨S147456x64, .f32⟩
  | 40 => ⟨S_, .f32⟩
  | 41 => ⟨S147456x64, .f32⟩
  | 42 => ⟨S147456x64, .f32⟩
  | 43 => ⟨S147456x1x64x64, .f32⟩
  | 44 => ⟨S147456x64x64, .f32⟩
  | 45 => ⟨S147456x64, .f32⟩
  | 46 => ⟨S147456x64, .f32⟩
  | 47 => ⟨S147456x1x64, .f32⟩
  | 48 => ⟨S147456x64, .f32⟩
  | 49 => ⟨S147456x64, .f32⟩
  | 50 => ⟨S_, .f32⟩
  | 51 => ⟨S147456x64, .f32⟩
  | 52 => ⟨S147456x64, .f32⟩
  | 53 => ⟨S147456x1x64x64, .f32⟩
  | 54 => ⟨S147456x64x64, .f32⟩
  | 55 => ⟨S147456x64, .f32⟩
  | 56 => ⟨S147456x64, .f32⟩
  | 57 => ⟨S147456x1x64, .f32⟩
  | 58 => ⟨S147456x64, .f32⟩
  | 59 => ⟨S147456x64, .f32⟩
  | 60 => ⟨S_, .f32⟩
  | 61 => ⟨S147456x64, .f32⟩
  | 62 => ⟨S147456x64, .f32⟩
  | 63 => ⟨S147456x4, .f32⟩
  | 64 => ⟨S147456x4, .f32⟩
  | 65 => ⟨S147456x1, .f32⟩
  | 66 => ⟨S147456x103, .f32⟩
  | 67 => ⟨S_, .i32⟩
  | 68 => ⟨S147456, .i32⟩
  | 69 => ⟨S147456, .i1⟩
  | 70 => ⟨S_, .i32⟩
  | 71 => ⟨S147456, .i32⟩
  | 72 => ⟨S147456, .i32⟩
  | 73 => ⟨S147456, .i32⟩
  | 74 => ⟨S147456x1, .i32⟩
  | 75 => ⟨S147456x103x64, .f32⟩
  | 76 => ⟨S_, .i32⟩
  | 77 => ⟨S147456, .i32⟩
  | 78 => ⟨S147456, .i1⟩
  | 79 => ⟨S_, .i32⟩
  | 80 => ⟨S147456, .i32⟩
  | 81 => ⟨S147456, .i32⟩
  | 82 => ⟨S147456, .i32⟩
  | 83 => ⟨S147456x1, .i32⟩
  | 84 => ⟨S147456x64, .f32⟩
  | 85 => ⟨S_, .i32⟩
  | 86 => ⟨S147456, .i32⟩
  | 87 => ⟨S147456, .i1⟩
  | 88 => ⟨S_, .i32⟩
  | 89 => ⟨S147456, .i32⟩
  | 90 => ⟨S147456, .i32⟩
  | 91 => ⟨S147456, .i32⟩
  | 92 => ⟨S147456x1, .i32⟩
  | 93 => ⟨S147456x2x64x64, .f32⟩
  | 94 => ⟨S_, .i32⟩
  | 95 => ⟨S147456, .i32⟩
  | 96 => ⟨S147456, .i1⟩
  | 97 => ⟨S_, .i32⟩
  | 98 => ⟨S147456, .i32⟩
  | 99 => ⟨S147456, .i32⟩
  | 100 => ⟨S147456, .i32⟩
  | 101 => ⟨S147456x1, .i32⟩
  | 102 => ⟨S147456x2x64, .f32⟩
  | 103 => ⟨S_, .i32⟩
  | 104 => ⟨S147456, .i32⟩
  | 105 => ⟨S147456, .i1⟩
  | 106 => ⟨S_, .i32⟩
  | 107 => ⟨S147456, .i32⟩
  | 108 => ⟨S147456, .i32⟩
  | 109 => ⟨S147456, .i32⟩
  | 110 => ⟨S147456x1, .i32⟩
  | 111 => ⟨S147456x64x4, .f32⟩
  | 112 => ⟨S_, .i32⟩
  | 113 => ⟨S147456, .i32⟩
  | 114 => ⟨S147456, .i1⟩
  | 115 => ⟨S_, .i32⟩
  | 116 => ⟨S147456, .i32⟩
  | 117 => ⟨S147456, .i32⟩
  | 118 => ⟨S147456, .i32⟩
  | 119 => ⟨S147456x1, .i32⟩
  | 120 => ⟨S147456x4, .f32⟩
  | 121 => ⟨S147456x64, .f32⟩
  | 122 => ⟨S147456x64, .f32⟩
  | 123 => ⟨S_, .f32⟩
  | 124 => ⟨S147456x64, .f32⟩
  | 125 => ⟨S147456x64, .f32⟩
  | 126 => ⟨S147456x1x64x64, .f32⟩
  | 127 => ⟨S147456x64x64, .f32⟩
  | _ => ⟨S1x3x384x384, .f32⟩

abbrev hbmTy0_2 (i : Nat) : BufTy := match i % 128 with
  | 0 => ⟨S147456x64, .f32⟩
  | 1 => ⟨S147456x64, .f32⟩
  | 2 => ⟨S147456x1x64, .f32⟩
  | 3 => ⟨S147456x64, .f32⟩
  | 4 => ⟨S147456x64, .f32⟩
  | 5 => ⟨S_, .f32⟩
  | 6 => ⟨S147456x64, .f32⟩
  | 7 => ⟨S147456x64, .f32⟩
  | 8 => ⟨S147456x1x64x64, .f32⟩
  | 9 => ⟨S147456x64x64, .f32⟩
  | 10 => ⟨S147456x64, .f32⟩
  | 11 => ⟨S147456x64, .f32⟩
  | 12 => ⟨S147456x1x64, .f32⟩
  | 13 => ⟨S147456x64, .f32⟩
  | 14 => ⟨S147456x64, .f32⟩
  | 15 => ⟨S_, .f32⟩
  | 16 => ⟨S147456x64, .f32⟩
  | 17 => ⟨S147456x64, .f32⟩
  | 18 => ⟨S147456x4, .f32⟩
  | 19 => ⟨S147456x4, .f32⟩
  | 20 => ⟨S147456x2, .f32⟩
  | 21 => ⟨S147456x104, .f32⟩
  | 22 => ⟨S_, .i32⟩
  | 23 => ⟨S147456, .i32⟩
  | 24 => ⟨S147456, .i1⟩
  | 25 => ⟨S_, .i32⟩
  | 26 => ⟨S147456, .i32⟩
  | 27 => ⟨S147456, .i32⟩
  | 28 => ⟨S147456, .i32⟩
  | 29 => ⟨S147456x1, .i32⟩
  | 30 => ⟨S147456x104x64, .f32⟩
  | 31 => ⟨S_, .i32⟩
  | 32 => ⟨S147456, .i32⟩
  | 33 => ⟨S147456, .i1⟩
  | 34 => ⟨S_, .i32⟩
  | 35 => ⟨S147456, .i32⟩
  | 36 => ⟨S147456, .i32⟩
  | 37 => ⟨S147456, .i32⟩
  | 38 => ⟨S147456x1, .i32⟩
  | 39 => ⟨S147456x64, .f32⟩
  | 40 => ⟨S_, .i32⟩
  | 41 => ⟨S147456, .i32⟩
  | 42 => ⟨S147456, .i1⟩
  | 43 => ⟨S_, .i32⟩
  | 44 => ⟨S147456, .i32⟩
  | 45 => ⟨S147456, .i32⟩
  | 46 => ⟨S147456, .i32⟩
  | 47 => ⟨S147456x1, .i32⟩
  | 48 => ⟨S147456x2x64x64, .f32⟩
  | 49 => ⟨S_, .i32⟩
  | 50 => ⟨S147456, .i32⟩
  | 51 => ⟨S147456, .i1⟩
  | 52 => ⟨S_, .i32⟩
  | 53 => ⟨S147456, .i32⟩
  | 54 => ⟨S147456, .i32⟩
  | 55 => ⟨S147456, .i32⟩
  | 56 => ⟨S147456x1, .i32⟩
  | 57 => ⟨S147456x2x64, .f32⟩
  | 58 => ⟨S_, .i32⟩
  | 59 => ⟨S147456, .i32⟩
  | 60 => ⟨S147456, .i1⟩
  | 61 => ⟨S_, .i32⟩
  | 62 => ⟨S147456, .i32⟩
  | 63 => ⟨S147456, .i32⟩
  | 64 => ⟨S147456, .i32⟩
  | 65 => ⟨S147456x1, .i32⟩
  | 66 => ⟨S147456x64x4, .f32⟩
  | 67 => ⟨S_, .i32⟩
  | 68 => ⟨S147456, .i32⟩
  | 69 => ⟨S147456, .i1⟩
  | 70 => ⟨S_, .i32⟩
  | 71 => ⟨S147456, .i32⟩
  | 72 => ⟨S147456, .i32⟩
  | 73 => ⟨S147456, .i32⟩
  | 74 => ⟨S147456x1, .i32⟩
  | 75 => ⟨S147456x4, .f32⟩
  | 76 => ⟨S147456x64, .f32⟩
  | 77 => ⟨S147456x64, .f32⟩
  | 78 => ⟨S_, .f32⟩
  | 79 => ⟨S147456x64, .f32⟩
  | 80 => ⟨S147456x64, .f32⟩
  | 81 => ⟨S147456x1x64x64, .f32⟩
  | 82 => ⟨S147456x64x64, .f32⟩
  | 83 => ⟨S147456x64, .f32⟩
  | 84 => ⟨S147456x64, .f32⟩
  | 85 => ⟨S147456x1x64, .f32⟩
  | 86 => ⟨S147456x64, .f32⟩
  | 87 => ⟨S147456x64, .f32⟩
  | 88 => ⟨S_, .f32⟩
  | 89 => ⟨S147456x64, .f32⟩
  | 90 => ⟨S147456x64, .f32⟩
  | 91 => ⟨S147456x1x64x64, .f32⟩
  | 92 => ⟨S147456x64x64, .f32⟩
  | 93 => ⟨S147456x64, .f32⟩
  | 94 => ⟨S147456x64, .f32⟩
  | 95 => ⟨S147456x1x64, .f32⟩
  | 96 => ⟨S147456x64, .f32⟩
  | 97 => ⟨S147456x64, .f32⟩
  | 98 => ⟨S_, .f32⟩
  | 99 => ⟨S147456x64, .f32⟩
  | 100 => ⟨S147456x64, .f32⟩
  | 101 => ⟨S147456x4, .f32⟩
  | 102 => ⟨S147456x4, .f32⟩
  | 103 => ⟨S147456x1x4, .f32⟩
  | 104 => ⟨S147456x1x4, .f32⟩
  | 105 => ⟨S147456x1x4, .f32⟩
  | 106 => ⟨S147456x3x4, .f32⟩
  | _ => ⟨S1x3x384x384, .f32⟩

abbrev hbmTy (i : Nat) : BufTy := match i / 128 with
  | 0 => hbmTy0_0 i
  | 1 => hbmTy0_1 i
  | 2 => hbmTy0_2 i
  | _ => ⟨S1x3x384x384, .f32⟩

abbrev bufTy : (tb : Table) → Fin (tcTables nBuf tb) → BufTy
  | .hbm, ⟨i, _⟩ => hbmTy i
  | _, _ => ⟨S1x3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_c : Ref sig .tc := ⟨.hbm, 100, rfl⟩
abbrev main_v79 : Ref sig .tc := ⟨.hbm, 101, rfl⟩
abbrev main_v80 : Ref sig .tc := ⟨.hbm, 102, rfl⟩
abbrev main_c_0 : Ref sig .tc := ⟨.hbm, 103, rfl⟩
abbrev main_v81 : Ref sig .tc := ⟨.hbm, 104, rfl⟩
abbrev main_v82 : Ref sig .tc := ⟨.hbm, 105, rfl⟩
abbrev main_c_1 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_c_2 : Ref sig .tc := ⟨.hbm, 112, rfl⟩
abbrev main_v88 : Ref sig .tc := ⟨.hbm, 113, rfl⟩
abbrev main_v89 : Ref sig .tc := ⟨.hbm, 114, rfl⟩
abbrev main_c_3 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_c_4 : Ref sig .tc := ⟨.hbm, 121, rfl⟩
abbrev main_v95 : Ref sig .tc := ⟨.hbm, 122, rfl⟩
abbrev main_v96 : Ref sig .tc := ⟨.hbm, 123, rfl⟩
abbrev main_c_5 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_c_6 : Ref sig .tc := ⟨.hbm, 130, rfl⟩
abbrev main_v102 : Ref sig .tc := ⟨.hbm, 131, rfl⟩
abbrev main_v103 : Ref sig .tc := ⟨.hbm, 132, rfl⟩
abbrev main_c_7 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_c_8 : Ref sig .tc := ⟨.hbm, 139, rfl⟩
abbrev main_v109 : Ref sig .tc := ⟨.hbm, 140, rfl⟩
abbrev main_v110 : Ref sig .tc := ⟨.hbm, 141, rfl⟩
abbrev main_c_9 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_c_10 : Ref sig .tc := ⟨.hbm, 148, rfl⟩
abbrev main_v116 : Ref sig .tc := ⟨.hbm, 149, rfl⟩
abbrev main_v117 : Ref sig .tc := ⟨.hbm, 150, rfl⟩
abbrev main_c_11 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_c_12 : Ref sig .tc := ⟨.hbm, 157, rfl⟩
abbrev main_v123 : Ref sig .tc := ⟨.hbm, 158, rfl⟩
abbrev main_v124 : Ref sig .tc := ⟨.hbm, 159, rfl⟩
abbrev main_c_13 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_14 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_cst_15 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_cst_16 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_c_17 : Ref sig .tc := ⟨.hbm, 195, rfl⟩
abbrev main_v156 : Ref sig .tc := ⟨.hbm, 196, rfl⟩
abbrev main_v157 : Ref sig .tc := ⟨.hbm, 197, rfl⟩
abbrev main_c_18 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_c_19 : Ref sig .tc := ⟨.hbm, 204, rfl⟩
abbrev main_v163 : Ref sig .tc := ⟨.hbm, 205, rfl⟩
abbrev main_v164 : Ref sig .tc := ⟨.hbm, 206, rfl⟩
abbrev main_c_20 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_c_21 : Ref sig .tc := ⟨.hbm, 213, rfl⟩
abbrev main_v170 : Ref sig .tc := ⟨.hbm, 214, rfl⟩
abbrev main_v171 : Ref sig .tc := ⟨.hbm, 215, rfl⟩
abbrev main_c_22 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_c_23 : Ref sig .tc := ⟨.hbm, 222, rfl⟩
abbrev main_v177 : Ref sig .tc := ⟨.hbm, 223, rfl⟩
abbrev main_v178 : Ref sig .tc := ⟨.hbm, 224, rfl⟩
abbrev main_c_24 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩
abbrev main_c_25 : Ref sig .tc := ⟨.hbm, 231, rfl⟩
abbrev main_v184 : Ref sig .tc := ⟨.hbm, 232, rfl⟩
abbrev main_v185 : Ref sig .tc := ⟨.hbm, 233, rfl⟩
abbrev main_c_26 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_c_27 : Ref sig .tc := ⟨.hbm, 240, rfl⟩
abbrev main_v191 : Ref sig .tc := ⟨.hbm, 241, rfl⟩
abbrev main_v192 : Ref sig .tc := ⟨.hbm, 242, rfl⟩
abbrev main_c_28 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_cst_29 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_cst_30 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_cst_31 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_c_32 : Ref sig .tc := ⟨.hbm, 278, rfl⟩
abbrev main_v224 : Ref sig .tc := ⟨.hbm, 279, rfl⟩
abbrev main_v225 : Ref sig .tc := ⟨.hbm, 280, rfl⟩
abbrev main_c_33 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_c_34 : Ref sig .tc := ⟨.hbm, 287, rfl⟩
abbrev main_v231 : Ref sig .tc := ⟨.hbm, 288, rfl⟩
abbrev main_v232 : Ref sig .tc := ⟨.hbm, 289, rfl⟩
abbrev main_c_35 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_c_36 : Ref sig .tc := ⟨.hbm, 296, rfl⟩
abbrev main_v238 : Ref sig .tc := ⟨.hbm, 297, rfl⟩
abbrev main_v239 : Ref sig .tc := ⟨.hbm, 298, rfl⟩
abbrev main_c_37 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_c_38 : Ref sig .tc := ⟨.hbm, 305, rfl⟩
abbrev main_v245 : Ref sig .tc := ⟨.hbm, 306, rfl⟩
abbrev main_v246 : Ref sig .tc := ⟨.hbm, 307, rfl⟩
abbrev main_c_39 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_c_40 : Ref sig .tc := ⟨.hbm, 314, rfl⟩
abbrev main_v252 : Ref sig .tc := ⟨.hbm, 315, rfl⟩
abbrev main_v253 : Ref sig .tc := ⟨.hbm, 316, rfl⟩
abbrev main_c_41 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_c_42 : Ref sig .tc := ⟨.hbm, 323, rfl⟩
abbrev main_v259 : Ref sig .tc := ⟨.hbm, 324, rfl⟩
abbrev main_v260 : Ref sig .tc := ⟨.hbm, 325, rfl⟩
abbrev main_c_43 : Ref sig .tc := ⟨.hbm, 326, rfl⟩
abbrev main_v261 : Ref sig .tc := ⟨.hbm, 327, rfl⟩
abbrev main_v262 : Ref sig .tc := ⟨.hbm, 328, rfl⟩
abbrev main_v263 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩
abbrev main_v267 : Ref sig .tc := ⟨.hbm, 333, rfl⟩
abbrev main_cst_44 : Ref sig .tc := ⟨.hbm, 334, rfl⟩
abbrev main_v268 : Ref sig .tc := ⟨.hbm, 335, rfl⟩
abbrev main_v269 : Ref sig .tc := ⟨.hbm, 336, rfl⟩
abbrev main_v270 : Ref sig .tc := ⟨.hbm, 337, rfl⟩
abbrev main_v271 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_v276 : Ref sig .tc := ⟨.hbm, 343, rfl⟩
abbrev main_cst_45 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_cst_46 : Ref sig .tc := ⟨.hbm, 354, rfl⟩
abbrev main_v286 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_v292 : Ref sig .tc := ⟨.hbm, 361, rfl⟩
abbrev main_v293 : Ref sig .tc := ⟨.hbm, 362, rfl⟩

abbrev nD : Nat := 1
abbrev τ : Topo := Topo.v7x

variable {F : FTy → Type} [FloatOps F]
-- ==== Proof.KernelRun.lean ====
/- The kernel's run with its result named: what the last stretch of host operations leaves. -/
module

public import proofs.«01_k».proof.Proof.Gen.KernelIdeal.Frame

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with its result: every weakly fair execution terminates, with the result array at the last boundary's contents
    and every argument as launched. -/
theorem kernelRun : θ_run defs (onTc (τ := τ) (main (F := F))) ⟨m, fun _ => 0, ρ⟩ (fun r => ∀ c : Dev nD,
      r.2.mem ((c.tc : Thread nD τ).loc main_v93) = W12 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => fun c =>
      ⟨(h c _ (mem_uc main_v93 (by decide))),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c)⟩)

end Cert.Proof

end
-- ==== Proof.PackedNet.lean ====
/- The network the second kernel evaluates at one pixel: three layers whose weights carry the biases as an extra row and
   the residual connection as an extra unit on the diagonal. -/
module

public import Idealize.ShloMosaic.Lib.Pipeline.ValueKit

@[expose] public section

noncomputable section

namespace Cert.Proof

/-- One layer before its nonlinearity: the row `h` times the matrix `w`. -/
def rowTimes {n p : ℕ} (h : Fin n → EReal) (w : Fin n → Fin p → EReal) (j : Fin p) : EReal := ∑ i, h i * w i j

/-- The layer's positive part. -/
def layer {n p : ℕ} (h : Fin n → EReal) (w : Fin n → Fin p → EReal) (j : Fin p) : EReal := max (rowTimes h w j) 0

/-- The whole packed network at one pixel. -/
def packedNet (x : Fin 112 → EReal) (w0 : Fin 112 → Fin 65 → EReal) (w1 w2 : Fin 65 → Fin 65 → EReal)
    (wo : Fin 65 → Fin 4 → EReal) : Fin 4 → EReal :=
  rowTimes (layer (layer (layer x w0) w1) w2) wo

/-- The packed network depends only on the entries of its arguments. -/
theorem packedNet_congr {x x' : Fin 112 → EReal} {w0 w0' : Fin 112 → Fin 65 → EReal} {w1 w1' w2 w2' : Fin 65 → Fin 65 → EReal}
    {wo wo' : Fin 65 → Fin 4 → EReal} (hx : ∀ q, x q = x' q) (h0 : ∀ q j, w0 q j = w0' q j) (h1 : ∀ i j, w1 i j = w1' i j)
    (h2 : ∀ i j, w2 i j = w2' i j) (ho : ∀ i j, wo i j = wo' i j) (k : Fin 4) :
    packedNet x w0 w1 w2 wo k = packedNet x' w0' w1' w2' wo' k := by
  rw [show x = x' from funext hx, show w0 = w0' from funext fun q => funext (h0 q),
    show w1 = w1' from funext fun q => funext (h1 q), show w2 = w2' from funext fun q => funext (h2 q),
    show wo = wo' from funext fun q => funext (ho q)]

end Cert.Proof

end
-- ==== Proof.PackedWeights.lean ====
/- The entries of the packed weights: a layer's weights with the bias as one more row, the residual connection as one more
   unit on the diagonal, and one more column that carries the constant one to the next layer. -/
module

public import Idealize.ShloMosaic.Lib.Pipeline.ValueKit

@[expose] public section

noncomputable section

namespace Cert.Proof

open Idealize.ShloMosaic

/-- The first layer: rows `0 … n - 1` the weights, row 105 the bias (its input plane is the ones), zeros elsewhere; the
    last column picks the ones. -/
def w0At {n : ℕ} (w : FVec Ideal ⟨3, ![16, n, 64]⟩ .f32) (b : FVec Ideal ⟨2, ![16, 64]⟩ .f32) (e : Fin 16) (q : Fin 112)
    (j : Fin 65) : EReal :=
  if hj : j.val < 64 then
    if _hq : q.val < 105 then
      if h : q.val < n ∧ j.val < 64 then w (ix3 e ⟨q.val, h.1⟩ ⟨j.val, hj⟩) else 0
    else if _hb : q.val - 105 < 1 then b (ix2 e ⟨j.val, hj⟩) else 0
  else if q.val = 105 then 1 else 0

/-- A hidden layer: the weights plus the identity, the bias below them, and the ones column kept. -/
def whAt (w : FVec Ideal ⟨4, ![16, 2, 64, 64]⟩ .f32) (b : FVec Ideal ⟨3, ![16, 2, 64]⟩ .f32) (e : Fin 16) (l : Fin 2)
    (i j : Fin 65) : EReal :=
  if hi : i.val < 64 then
    if hj : j.val < 64 then w (ix4 e l ⟨i.val, hi⟩ ⟨j.val, hj⟩) + (if i.val = j.val then 1 else 0) else 0
  else if hj : j.val < 64 then b (ix3 e l ⟨j.val, hj⟩) else 1

/-- The last layer: the weights, the bias below them. -/
def woAt (w : FVec Ideal ⟨3, ![16, 64, 4]⟩ .f32) (b : FVec Ideal ⟨2, ![16, 4]⟩ .f32) (e : Fin 16) (i : Fin 65) (k : Fin 4) :
    EReal :=
  if hi : i.val < 64 then w (ix3 e ⟨i.val, hi⟩ k) else b (ix2 e k)

end Cert.Proof

end
-- ==== Proof.Dense.lean ====
/- Three layers with biases and residual connections, written plainly, and what the packed weights have to do with them:
   a row of ones carries the biases and a unit on the diagonal carries the residual. -/
module

public import proofs.«01_k».proof.Proof.PackedNet
public import proofs.«01_k».proof.Proof.PackedWeights

@[expose] public section

noncomputable section

namespace Cert.Proof

open Idealize.ShloMosaic

/-- The first layer. -/
def firstLayer {d p : ℕ} (x : Fin d → EReal) (w : Fin d → Fin p → EReal) (b : Fin p → EReal) (j : Fin p) : EReal :=
  max (∑ q, x q * w q j + b j) 0

/-- A hidden layer with its residual connection. -/
def hiddenLayer {p : ℕ} (h : Fin p → EReal) (w : Fin p → Fin p → EReal) (b : Fin p → EReal) (j : Fin p) : EReal :=
  max (h j + ∑ i, h i * w i j + b j) 0

/-- The last layer. -/
def lastLayer {p r : ℕ} (h : Fin p → EReal) (w : Fin p → Fin r → EReal) (b : Fin r → EReal) (k : Fin r) : EReal :=
  ∑ i, h i * w i k + b k

/-- The network of expert `e` at the input row `x`. -/
def plainNet {d : ℕ} (x : Fin d → EReal) (w0 : FVec Ideal ⟨3, ![16, d, 64]⟩ .f32) (b0 : FVec Ideal ⟨2, ![16, 64]⟩ .f32)
    (wh : FVec Ideal ⟨4, ![16, 2, 64, 64]⟩ .f32) (bh : FVec Ideal ⟨3, ![16, 2, 64]⟩ .f32)
    (wo : FVec Ideal ⟨3, ![16, 64, 4]⟩ .f32) (bo : FVec Ideal ⟨2, ![16, 4]⟩ .f32) (e : Fin 16) (k : Fin 4) : EReal :=
  lastLayer
    (hiddenLayer
      (hiddenLayer (firstLayer x (fun q j => w0 (ix3 e q j)) (fun j => b0 (ix2 e j)))
        (fun i j => wh (ix4 e 0 i j)) (fun j => bh (ix3 e 0 j)))
      (fun i j => wh (ix4 e 1 i j)) (fun j => bh (ix3 e 1 j)))
    (fun i k => wo (ix3 e i k)) (fun k => bo (ix2 e k)) k

/-! ### Values that are real numbers -/

/-- `a` is a real number. -/
def IsReal (a : EReal) : Prop := ∃ r : ℝ, a = (r : EReal)

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.zero : IsReal 0 := ⟨0, EReal.coe_zero.symm⟩

theorem IsReal.one : IsReal 1 := ⟨1, EReal.coe_one.symm⟩

theorem IsReal.max_zero {a : EReal} (ha : IsReal a) : IsReal (max a 0) := by
  rcases max_choice a 0 with h | h <;> rw [h]
  · exact ha
  · exact IsReal.zero

theorem IsReal.sum {n : ℕ} {f : Fin n → EReal} (h : ∀ i, IsReal (f i)) : IsReal (∑ i, f i) :=
  Finset.sum_induction f IsReal (fun _ _ => IsReal.add) IsReal.zero fun i _ => h i

theorem IsReal.ne_top {a : EReal} (ha : IsReal a) : a ≠ ⊤ := by
  obtain ⟨r, rfl⟩ := ha; exact EReal.coe_ne_top r

theorem firstLayer_real {d p : ℕ} {x : Fin d → EReal} {w : Fin d → Fin p → EReal} {b : Fin p → EReal}
    (hx : ∀ q, IsReal (x q)) (hw : ∀ q j, IsReal (w q j)) (hb : ∀ j, IsReal (b j)) (j : Fin p) :
    IsReal (firstLayer x w b j) :=
  ((IsReal.sum fun q => (hx q).mul (hw q j)).add (hb j)).max_zero

theorem hiddenLayer_real {p : ℕ} {h : Fin p → EReal} {w : Fin p → Fin p → EReal} {b : Fin p → EReal}
    (hh : ∀ q, IsReal (h q)) (hw : ∀ q j, IsReal (w q j)) (hb : ∀ j, IsReal (b j)) (j : Fin p) :
    IsReal (hiddenLayer h w b j) :=
  (((hh j).add (IsReal.sum fun q => (hh q).mul (hw q j))).add (hb j)).max_zero

/-! ### The packed layers -/

/-- What a packed row of units holds: the plain units, then a one. -/
structure Carries (h : Fin 65 → EReal) (g : Fin 64 → EReal) : Prop where
  unit : ∀ j : Fin 64, h j.castSucc = g j
  one : h (Fin.last 64) = 1

/-- A sum over the 112 planes of which only the first `d` and plane 105 count. -/
theorem sum_planes {d : ℕ} (hd : d ≤ 105) (f : Fin 112 → EReal) (hz : ∀ q : Fin 112, d ≤ q.val → q.val ≠ 105 → f q = 0) :
    ∑ q, f q = ∑ q : Fin d, f ⟨q.val, by omega⟩ + f 105 := by
  have h1 : ∑ q : Fin 112, f q = ∑ q ∈ Finset.range 112, (if h : q < 112 then f ⟨q, h⟩ else 0) := by
    rw [← Fin.sum_univ_eq_sum_range (fun q => if h : q < 112 then f ⟨q, h⟩ else 0) 112]
    exact Finset.sum_congr rfl fun q _ => by rw [dif_pos q.isLt]
  have h2 : ∑ q : Fin d, f ⟨q.val, by omega⟩ = ∑ q ∈ Finset.range d, (if h : q < 112 then f ⟨q, h⟩ else 0) := by
    rw [← Fin.sum_univ_eq_sum_range (fun q => if h : q < 112 then f ⟨q, h⟩ else 0) d]
    exact Finset.sum_congr rfl fun q _ => by rw [dif_pos (show q.val < 112 by omega)]
  have h3 : f 105 = (if h : 105 < 112 then f ⟨105, h⟩ else 0) := rfl
  rw [h1, h2, h3, add_comm, ← Finset.sum_insert (s := Finset.range d) (a := 105)
    (f := fun q => if h : q < 112 then f ⟨q, h⟩ else 0) (by simp only [Finset.mem_range]; omega)]
  refine (Finset.sum_subset ?_ ?_).symm
  · intro q hq
    simp only [Finset.mem_insert, Finset.mem_range] at hq ⊢
    omega
  · intro q hq hn
    simp only [Finset.mem_insert, Finset.mem_range, not_or, not_lt] at hq hn
    rw [dif_pos hq]
    exact hz ⟨q, hq⟩ hn.2 hn.1

/-- The first packed layer carries the first layer. -/
theorem packed_first {d : ℕ} (hd : d ≤ 105) (x : Fin 112 → EReal) (hone : x 105 = 1)
    (w : FVec Ideal ⟨3, ![16, d, 64]⟩ .f32) (b : FVec Ideal ⟨2, ![16, 64]⟩ .f32) (e : Fin 16) :
    Carries (layer x (w0At w b e))
      (firstLayer (fun q : Fin d => x ⟨q.val, by omega⟩) (fun q j => w (ix3 e q j)) (fun j => b (ix2 e j))) := by
  constructor
  · intro j
    unfold layer rowTimes firstLayer
    rw [sum_planes hd]
    · rw [hone, one_mul]
      congr 2
      · refine Finset.sum_congr rfl fun q _ => ?_
        unfold w0At
        rw [dif_pos (show (Fin.castSucc j).val < 64 from j.isLt), dif_pos (show q.val < 105 by omega),
          dif_pos ⟨q.isLt, j.isLt⟩]
        rfl
      · unfold w0At
        rw [dif_pos (show (Fin.castSucc j).val < 64 from j.isLt), dif_neg (by decide), dif_pos (by decide)]
        rfl
    · intro q hq h105
      unfold w0At
      rw [dif_pos (show (Fin.castSucc j).val < 64 from j.isLt)]
      by_cases h : q.val < 105
      · rw [dif_pos h, dif_neg (fun h' => absurd h'.1 (by omega)), mul_zero]
      · rw [dif_neg h, dif_neg (by omega), mul_zero]
  · unfold layer rowTimes
    rw [Finset.sum_eq_single (105 : Fin 112)]
    · unfold w0At
      rw [hone, dif_neg (by decide), if_pos (by decide), one_mul]
      exact max_eq_left zero_le_one
    · intro q _ hq
      unfold w0At
      rw [dif_neg (by decide), if_neg (show ¬q.val = 105 from fun h => hq (Fin.ext h)), mul_zero]
    · intro h; exact absurd (Finset.mem_univ _) h

/-- A hidden packed layer carries the hidden layer, when the units before it are real and not negative. -/
theorem packed_hidden (h : Fin 65 → EReal) (g : Fin 64 → EReal) (hc : Carries h g) (hr : ∀ j, IsReal (g j)) (hn : ∀ j, 0 ≤ g j)
    (w : FVec Ideal ⟨4, ![16, 2, 64, 64]⟩ .f32) (b : FVec Ideal ⟨3, ![16, 2, 64]⟩ .f32) (e : Fin 16) (l : Fin 2) :
    Carries (layer h (whAt w b e l)) (hiddenLayer g (fun i j => w (ix4 e l i j)) (fun j => b (ix3 e l j))) := by
  constructor
  · intro j
    unfold layer rowTimes hiddenLayer
    rw [Fin.sum_univ_castSucc, hc.one, one_mul]
    have hlast : whAt w b e l (Fin.last 64) j.castSucc = b (ix3 e l j) := by
      unfold whAt
      rw [dif_neg (by decide), dif_pos (show (Fin.castSucc j).val < 64 from j.isLt)]
      rfl
    have hrow : ∀ i : Fin 64, h i.castSucc * whAt w b e l i.castSucc j.castSucc
        = g i * w (ix4 e l i j) + (if i = j then g i else 0) := by
      intro i
      unfold whAt
      rw [dif_pos (show (Fin.castSucc i).val < 64 from i.isLt), dif_pos (show (Fin.castSucc j).val < 64 from j.isLt), hc.unit,
        EReal.left_distrib_of_nonneg_of_ne_top (hn i) (hr i).ne_top]
      congr 1
      by_cases hij : i = j
      · rw [if_pos hij, if_pos (show (Fin.castSucc i).val = (Fin.castSucc j).val by rw [hij]), mul_one]
      · rw [if_neg hij, if_neg (show ¬(Fin.castSucc i).val = (Fin.castSucc j).val from fun h => hij (Fin.ext h)), mul_zero]
    rw [hlast, Finset.sum_congr rfl fun i _ => hrow i, Finset.sum_add_distrib, Finset.sum_ite_eq' Finset.univ j g,
      if_pos (Finset.mem_univ _), add_comm (∑ i, g i * w (ix4 e l i j)) (g j)]
  · unfold layer rowTimes
    rw [Fin.sum_univ_castSucc, hc.one, one_mul, Finset.sum_eq_zero, zero_add]
    · unfold whAt
      rw [dif_neg (by decide), dif_neg (by decide)]
      exact max_eq_left zero_le_one
    · intro i _
      unfold whAt
      rw [dif_pos (show (Fin.castSucc i).val < 64 from i.isLt), dif_neg (by decide), mul_zero]

/-- The last packed layer is the last layer. -/
theorem packed_last (h : Fin 65 → EReal) (g : Fin 64 → EReal) (hc : Carries h g)
    (w : FVec Ideal ⟨3, ![16, 64, 4]⟩ .f32) (b : FVec Ideal ⟨2, ![16, 4]⟩ .f32) (e : Fin 16) (k : Fin 4) :
    rowTimes h (woAt w b e) k = lastLayer g (fun i k => w (ix3 e i k)) (fun k => b (ix2 e k)) k := by
  unfold rowTimes lastLayer
  rw [Fin.sum_univ_castSucc, hc.one, one_mul]
  congr 1
  · refine Finset.sum_congr rfl fun i _ => ?_
    unfold woAt
    rw [dif_pos (show (Fin.castSucc i).val < 64 from i.isLt), hc.unit]
    rfl

/-- **The packed network is the plain one**, when the input and what enters the first two layers are real numbers. -/
theorem packed_eq {d : ℕ} (hd : d ≤ 105) (x : Fin 112 → EReal) (hone : x 105 = 1)
    (w0 : FVec Ideal ⟨3, ![16, d, 64]⟩ .f32) (b0 : FVec Ideal ⟨2, ![16, 64]⟩ .f32)
    (wh : FVec Ideal ⟨4, ![16, 2, 64, 64]⟩ .f32) (bh : FVec Ideal ⟨3, ![16, 2, 64]⟩ .f32)
    (wo : FVec Ideal ⟨3, ![16, 64, 4]⟩ .f32) (bo : FVec Ideal ⟨2, ![16, 4]⟩ .f32) (e : Fin 16) (k : Fin 4)
    (hx : ∀ q, IsReal (x q)) (hw0 : ∀ q j, IsReal (w0 (ix3 e q j))) (hb0 : ∀ j, IsReal (b0 (ix2 e j)))
    (hwh : ∀ i j, IsReal (wh (ix4 e 0 i j))) (hbh : ∀ j, IsReal (bh (ix3 e 0 j))) :
    packedNet x (w0At w0 b0 e) (whAt wh bh e 0) (whAt wh bh e 1) (woAt wo bo e) k
      = plainNet (fun q : Fin d => x ⟨q.val, by omega⟩) w0 b0 wh bh wo bo e k := by
  have c0 := packed_first hd x hone w0 b0 e
  have r0 := firstLayer_real (fun q : Fin d => hx ⟨q.val, by omega⟩) hw0 hb0
  have c1 := packed_hidden _ _ c0 r0 (fun j => le_max_right _ _) wh bh e 0
  have r1 := hiddenLayer_real r0 hwh hbh
  have c2 := packed_hidden _ _ c1 r1 (fun j => le_max_right _ _) wh bh e 1
  exact packed_last _ _ c2 wo bo e k

end Cert.Proof

end
-- ==== Proof.Planes.lean ====
/- Which image plane each of the 112 planes of the im2col pass copies, and from which row and column: the table the
   kernel unrolls into the sixteen branches of its `lax.switch`, written as arithmetic. -/
module

public import Idealize.ShloMosaic.Lib.Pipeline.ValueKit

@[expose] public section

namespace Cert.Proof

/-- The rows of the 32 causal context pixels in the nine by nine patch, in raster order. -/
def ctxRows : List ℕ := [0, 0, 0, 0, 0, 1, 1, 1, 1, 1, 1, 1, 2, 2, 2, 2, 2, 2, 2, 3, 3, 3, 3, 3, 3, 3, 3, 3, 4, 4, 4, 4]

/-- The columns of the 32 causal context pixels in the nine by nine patch, in raster order. -/
def ctxCols : List ℕ := [2, 3, 4, 5, 6, 1, 2, 3, 4, 5, 6, 7, 1, 2, 3, 4, 5, 6, 7, 0, 1, 2, 3, 4, 5, 6, 7, 8, 0, 1, 2, 3]

/-- The source channel of plane `q`: 0..2 the image, 3..8 the synthesis channels, 9 the ones. -/
def planeChan (q : ℕ) : ℕ := if q < 96 then q / 32 else if q < 102 then q - 93 else if q < 105 then q - 102 else 9

/-- The first padded row that plane `q` copies. -/
def planeRow (q : ℕ) : ℕ := if q < 96 then ctxRows.getD (q % 32) 4 else 4

/-- The first padded column that plane `q` copies. -/
def planeCol (q : ℕ) : ℕ := if q < 96 then ctxCols.getD (q % 32) 4 else 4

theorem planeChan_lt (q : ℕ) : planeChan q < 10 := by
  unfold planeChan; split_ifs <;> omega

theorem getD_lt_nine (l : List ℕ) (h : ∀ x ∈ l, x < 9) (k : ℕ) : l.getD k 4 < 9 := by
  rw [List.getD_eq_getElem?_getD]
  rcases hk : l[k]? with _ | x
  · simp
  · exact h x (List.mem_of_getElem? hk)

theorem planeRow_lt (q : ℕ) : planeRow q < 9 := by
  unfold planeRow; split_ifs
  · exact getD_lt_nine _ (by decide) _
  · omega

theorem planeCol_lt (q : ℕ) : planeCol q < 9 := by
  unfold planeCol; split_ifs
  · exact getD_lt_nine _ (by decide) _
  · omega

open Idealize.ShloMosaic in
/-- Where plane `q` reads its pixel `(Y, X)` in the padded source. -/
def planeIdx (q Y X : ℕ) (hY : Y < 384) (hX : X < 384) : (⟨3, ![10, 392, 392]⟩ : Shape).Idx :=
  ix3 (⟨planeChan q, planeChan_lt q⟩ : Fin 10) (⟨planeRow q + Y, by have := planeRow_lt q; omega⟩ : Fin 392)
    (⟨planeCol q + X, by have := planeCol_lt q; omega⟩ : Fin 392)

open Idealize.ShloMosaic in
/-- An index whose coordinates are those of plane `q`'s pixel `(Y, X)` is that pixel's index. -/
theorem eq_planeIdx (q Y X : ℕ) (hY : Y < 384) (hX : X < 384) (a : Fin 10) (b d : Fin 392) (ha : (a : ℕ) = planeChan q)
    (hb : (b : ℕ) = planeRow q + Y) (hd : (d : ℕ) = planeCol q + X) : ix3 a b d = planeIdx q Y X hY hX := by
  unfold planeIdx
  congr 1 <;> exact Fin.ext (by assumption)

end Cert.Proof

end
-- ==== Proof.Region0.lean ====
/- What the first kernel leaves in the array of planes: at each grid point the switch takes the branch of that point,
   and the branch copies the seven planes of its block. -/
module

public import proofs.«01_k».proof.Proof.Planes
public import proofs.«01_k».proof.Proof.Gen.KernelIdeal.Frame
public import Idealize.ShloMosaic.Lib.Pipeline.ValueKit

@[expose] public section

set_option maxRecDepth 16384

noncomputable section

namespace Cert.Proof

open Idealize.ShloMosaic Idealize.ShloMosaic.TcCoe Idealize.ShloMosaic.ValueIdx Idealize.ShloMosaic.Tactic Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The block of the first kernel's result at point `t`: plane `7 * t + y 0` of the padded source. -/
def planesBlock (c : Dev nD) (t : Fin cfg0.N) (y : S7x384x384.Idx) : Ideal .f32 :=
  (show FVec Ideal S10x392x392 .f32 from iblk0 V c 0 t) (planeIdx (7 * t.val + y 0) (y 1) (y 2) (y 1).isLt (y 2).isLt)

/-- Branch 0 of the switch. -/
theorem outs_A (c : Dev nD) (t : Fin cfg0.N) (ht : t.val = 0) (y : S7x384x384.Idx) :
    (show FVec Ideal S7x384x384 .f32 from outsAt0 V c t.val t.isLt) y = planesBlock V c t y := by
  rw [outsAt0_A V c t (by omega)]
  unfold planesBlock
  frame_out
  canon_tiles x h
  all_goals
    have hx : ((x 0 : Fin 1) : ℕ) = 0 := by omega
    open_payloads
    simp only [ht, h0, h1, h2, hx]
    pointwise
    refine congrArg _ (eq_planeIdx _ _ _ _ _ _ _ _ (by decide) ?_ ?_)
    · simp [planeRow, ctxRows, h1]
    · simp [planeCol, ctxCols, h2]

/-- Branch 1 of the switch. -/
theorem outs_B (c : Dev nD) (t : Fin cfg0.N) (ht : t.val = 1) (y : S7x384x384.Idx) :
    (show FVec Ideal S7x384x384 .f32 from outsAt0 V c t.val t.isLt) y = planesBlock V c t y := by
  rw [outsAt0_B V c t (by omega) (by omega)]
  unfold planesBlock
  frame_out
  canon_tiles x h
  all_goals
    have hx : ((x 0 : Fin 1) : ℕ) = 0 := by omega
    open_payloads
    simp only [ht, h0, h1, h2, hx]
    pointwise
    refine congrArg _ (eq_planeIdx _ _ _ _ _ _ _ _ (by decide) ?_ ?_)
    · simp [planeRow, ctxRows, h1]
    · simp [planeCol, ctxCols, h2]

/-- Branch 2 of the switch. -/
theorem outs_C (c : Dev nD) (t : Fin cfg0.N) (ht : t.val = 2) (y : S7x384x384.Idx) :
    (show FVec Ideal S7x384x384 .f32 from outsAt0 V c t.val t.isLt) y = planesBlock V c t y := by
  rw [outsAt0_C V c t (by omega) (by omega) (by omega)]
  unfold planesBlock
  frame_out
  canon_tiles x h
  all_goals
    have hx : ((x 0 : Fin 1) : ℕ) = 0 := by omega
    open_payloads
    simp only [ht, h0, h1, h2, hx]
    pointwise
    refine congrArg _ (eq_planeIdx _ _ _ _ _ _ _ _ (by decide) ?_ ?_)
    · simp [planeRow, ctxRows, h1]
    · simp [planeCol, ctxCols, h2]

/-- Branch 3 of the switch. -/
theorem outs_D (c : Dev nD) (t : Fin cfg0.N) (ht : t.val = 3) (y : S7x384x384.Idx) :
    (show FVec Ideal S7x384x384 .f32 from outsAt0 V c t.val t.isLt) y = planesBlock V c t y := by
  rw [outsAt0_D V c t (by omega) (by omega) (by omega) (by omega)]
  unfold planesBlock
  frame_out
  canon_tiles x h
  all_goals
    have hx : ((x 0 : Fin 1) : ℕ) = 0 := by omega
    open_payloads
    simp only [ht, h0, h1, h2, hx]
    pointwise
    refine congrArg _ (eq_planeIdx _ _ _ _ _ _ _ _ (by decide) ?_ ?_)
    · simp [planeRow, ctxRows, h1]
    · simp [planeCol, ctxCols, h2]

/-- Branch 4 of the switch. -/
theorem outs_E (c : Dev nD) (t : Fin cfg0.N) (ht : t.val = 4) (y : S7x384x384.Idx) :
    (show FVec Ideal S7x384x384 .f32 from outsAt0 V c t.val t.isLt) y = planesBlock V c t y := by
  rw [outsAt0_E V c t (by omega) (by omega) (by omega) (by omega) (by omega)]
  unfold planesBlock
  frame_out
  canon_tiles x h
  all_goals
    have hx : ((x 0 : Fin 1) : ℕ) = 0 := by omega
    open_payloads
    simp only [ht, h0, h1, h2, hx]
    pointwise
    refine congrArg _ (eq_planeIdx _ _ _ _ _ _ _ _ (by decide) ?_ ?_)
    · simp [planeRow, ctxRows, h1]
    · simp [planeCol, ctxCols, h2]

/-- Branch 5 of the switch. -/
theorem outs_F (c : Dev nD) (t : Fin cfg0.N) (ht : t.val = 5) (y : S7x384x384.Idx) :
    (show FVec Ideal S7x384x384 .f32 from outsAt0 V c t.val t.isLt) y = planesBlock V c t y := by
  rw [outsAt0_F V c t (by omega) (by omega) (by omega) (by omega) (by omega) (by omega)]
  unfold planesBlock
  frame_out
  canon_tiles x h
  all_goals
    have hx : ((x 0 : Fin 1) : ℕ) = 0 := by omega
    open_payloads
    simp only [ht, h0, h1, h2, hx]
    pointwise
    refine congrArg _ (eq_planeIdx _ _ _ _ _ _ _ _ (by decide) ?_ ?_)
    · simp [planeRow, ctxRows, h1]
    · simp [planeCol, ctxCols, h2]

/-- Branch 6 of the switch. -/
theorem outs_G (c : Dev nD) (t : Fin cfg0.N) (ht : t.val = 6) (y : S7x384x384.Idx) :
    (show FVec Ideal S7x384x384 .f32 from outsAt0 V c t.val t.isLt) y = planesBlock V c t y := by
  rw [outsAt0_G V c t (by omega) (by omega) (by omega) (by omega) (by omega) (by omega) (by omega)]
  unfold planesBlock
  frame_out
  canon_tiles x h
  all_goals
    have hx : ((x 0 : Fin 1) : ℕ) = 0 := by omega
    open_payloads
    simp only [ht, h0, h1, h2, hx]
    pointwise
    refine congrArg _ (eq_planeIdx _ _ _ _ _ _ _ _ (by decide) ?_ ?_)
    · simp [planeRow, ctxRows, h1]
    · simp [planeCol, ctxCols, h2]

/-- Branch 7 of the switch. -/
theorem outs_H (c : Dev nD) (t : Fin cfg0.N) (ht : t.val = 7) (y : S7x384x384.Idx) :
    (show FVec Ideal S7x384x384 .f32 from outsAt0 V c t.val t.isLt) y = planesBlock V c t y := by
  rw [outsAt0_H V c t (by omega) (by omega) (by omega) (by omega) (by omega) (by omega) (by omega) (by omega)]
  unfold planesBlock
  frame_out
  canon_tiles x h
  all_goals
    have hx : ((x 0 : Fin 1) : ℕ) = 0 := by omega
    open_payloads
    simp only [ht, h0, h1, h2, hx]
    pointwise
    refine congrArg _ (eq_planeIdx _ _ _ _ _ _ _ _ (by decide) ?_ ?_)
    · simp [planeRow, ctxRows, h1]
    · simp [planeCol, ctxCols, h2]

/-- Branch 8 of the switch. -/
theorem outs_I (c : Dev nD) (t : Fin cfg0.N) (ht : t.val = 8) (y : S7x384x384.Idx) :
    (show FVec Ideal S7x384x384 .f32 from outsAt0 V c t.val t.isLt) y = planesBlock V c t y := by
  rw [outsAt0_I V c t (by omega) (by omega) (by omega) (by omega) (by omega) (by omega) (by omega) (by omega) (by omega)]
  unfold planesBlock
  frame_out
  canon_tiles x h
  all_goals
    have hx : ((x 0 : Fin 1) : ℕ) = 0 := by omega
    open_payloads
    simp only [ht, h0, h1, h2, hx]
    pointwise
    refine congrArg _ (eq_planeIdx _ _ _ _ _ _ _ _ (by decide) ?_ ?_)
    · simp [planeRow, ctxRows, h1]
    · simp [planeCol, ctxCols, h2]

/-- Branch 9 of the switch. -/
theorem outs_J (c : Dev nD) (t : Fin cfg0.N) (ht : t.val = 9) (y : S7x384x384.Idx) :
    (show FVec Ideal S7x384x384 .f32 from outsAt0 V c t.val t.isLt) y = planesBlock V c t y := by
  rw [outsAt0_J V c t (by omega) (by omega) (by omega) (by omega) (by omega) (by omega) (by omega) (by omega) (by omega) (by omega)]
  unfold planesBlock
  frame_out
  canon_tiles x h
  all_goals
    have hx : ((x 0 : Fin 1) : ℕ) = 0 := by omega
    open_payloads
    simp only [ht, h0, h1, h2, hx]
    pointwise
    refine congrArg _ (eq_planeIdx _ _ _ _ _ _ _ _ (by decide) ?_ ?_)
    · simp [planeRow, ctxRows, h1]
    · simp [planeCol, ctxCols, h2]

/-- Branch 10 of the switch. -/
theorem outs_K (c : Dev nD) (t : Fin cfg0.N) (ht : t.val = 10) (y : S7x384x384.Idx) :
    (show FVec Ideal S7x384x384 .f32 from outsAt0 V c t.val t.isLt) y = planesBlock V c t y := by
  rw [outsAt0_K V c t (by omega) (by omega) (by omega) (by omega) (by omega) (by omega) (by omega) (by omega) (by omega) (by omega) (by omega)]
  unfold planesBlock
  frame_out
  canon_tiles x h
  all_goals
    have hx : ((x 0 : Fin 1) : ℕ) = 0 := by omega
    open_payloads
    simp only [ht, h0, h1, h2, hx]
    pointwise
    refine congrArg _ (eq_planeIdx _ _ _ _ _ _ _ _ (by decide) ?_ ?_)
    · simp [planeRow, ctxRows, h1]
    · simp [planeCol, ctxCols, h2]

/-- Branch 11 of the switch. -/
theorem outs_L (c : Dev nD) (t : Fin cfg0.N) (ht : t.val = 11) (y : S7x384x384.Idx) :
    (show FVec Ideal S7x384x384 .f32 from outsAt0 V c t.val t.isLt) y = planesBlock V c t y := by
  rw [outsAt0_L V c t (by omega) (by omega) (by omega) (by omega) (by omega) (by omega) (by omega) (by omega) (by omega) (by omega) (by omega) (by omega)]
  unfold planesBlock
  frame_out
  canon_tiles x h
  all_goals
    have hx : ((x 0 : Fin 1) : ℕ) = 0 := by omega
    open_payloads
    simp only [ht, h0, h1, h2, hx]
    pointwise
    refine congrArg _ (eq_planeIdx _ _ _ _ _ _ _ _ (by decide) ?_ ?_)
    · simp [planeRow, ctxRows, h1]
    · simp [planeCol, ctxCols, h2]

/-- Branch 12 of the switch. -/
theorem outs_M (c : Dev nD) (t : Fin cfg0.N) (ht : t.val = 12) (y : S7x384x384.Idx) :
    (show FVec Ideal S7x384x384 .f32 from outsAt0 V c t.val t.isLt) y = planesBlock V c t y := by
  rw [outsAt0_M V c t (by omega) (by omega) (by omega) (by omega) (by omega) (by omega) (by omega) (by omega) (by omega) (by omega) (by omega) (by omega) (by omega)]
  unfold planesBlock
  frame_out
  canon_tiles x h
  all_goals
    have hx : ((x 0 : Fin 1) : ℕ) = 0 := by omega
    open_payloads
    simp only [ht, h0, h1, h2, hx]
    pointwise
    refine congrArg _ (eq_planeIdx _ _ _ _ _ _ _ _ (by decide) ?_ ?_)
    · simp [planeRow, ctxRows, h1]
    · simp [planeCol, ctxCols, h2]

/-- Branch 13 of the switch. -/
theorem outs_N (c : Dev nD) (t : Fin cfg0.N) (ht : t.val = 13) (y : S7x384x384.Idx) :
    (show FVec Ideal S7x384x384 .f32 from outsAt0 V c t.val t.isLt) y = planesBlock V c t y := by
  rw [outsAt0_N V c t (by omega) (by omega) (by omega) (by omega) (by omega) (by omega) (by omega) (by omega) (by omega) (by omega) (by omega) (by omega) (by omega) (by omega)]
  unfold planesBlock
  frame_out
  canon_tiles x h
  all_goals
    have hx : ((x 0 : Fin 1) : ℕ) = 0 := by omega
    open_payloads
    simp only [ht, h0, h1, h2, hx]
    pointwise
    refine congrArg _ (eq_planeIdx _ _ _ _ _ _ _ _ (by decide) ?_ ?_)
    · simp [planeRow, ctxRows, h1]
    · simp [planeCol, ctxCols, h2]

/-- Branch 14 of the switch. -/
theorem outs_O (c : Dev nD) (t : Fin cfg0.N) (ht : t.val = 14) (y : S7x384x384.Idx) :
    (show FVec Ideal S7x384x384 .f32 from outsAt0 V c t.val t.isLt) y = planesBlock V c t y := by
  rw [outsAt0_O V c t (by omega) (by omega) (by omega) (by omega) (by omega) (by omega) (by omega) (by omega) (by omega) (by omega) (by omega) (by omega) (by omega) (by omega) (by omega)]
  unfold planesBlock
  frame_out
  canon_tiles x h
  all_goals
    have hx : ((x 0 : Fin 1) : ℕ) = 0 := by omega
    open_payloads
    simp only [ht, h0, h1, h2, hx]
    pointwise
    refine congrArg _ (eq_planeIdx _ _ _ _ _ _ _ _ (by decide) ?_ ?_)
    · simp [planeRow, ctxRows, h1]
    · simp [planeCol, ctxCols, h2]

/-- Branch 15 of the switch. -/
theorem outs_P (c : Dev nD) (t : Fin cfg0.N) (ht : t.val = 15) (y : S7x384x384.Idx) :
    (show FVec Ideal S7x384x384 .f32 from outsAt0 V c t.val t.isLt) y = planesBlock V c t y := by
  rw [outsAt0_P V c t (by omega) (by omega) (by omega) (by omega) (by omega) (by omega) (by omega) (by omega) (by omega) (by omega) (by omega) (by omega) (by omega) (by omega) (by omega)]
  unfold planesBlock
  frame_out
  canon_tiles x h
  all_goals
    have hx : ((x 0 : Fin 1) : ℕ) = 0 := by omega
    open_payloads
    simp only [ht, h0, h1, h2, hx]
    pointwise
    refine congrArg _ (eq_planeIdx _ _ _ _ _ _ _ _ (by decide) ?_ ?_)
    · simp [planeRow, ctxRows, h1]
    · simp [planeCol, ctxCols, h2]

/-- Every point's block, whichever branch was taken. -/
theorem outs_eq (c : Dev nD) (t : Fin cfg0.N) (y : S7x384x384.Idx) :
    (show FVec Ideal S7x384x384 .f32 from outsAt0 V c t.val t.isLt) y = planesBlock V c t y := by
  have ht : t.val < 16 := lt_of_lt_of_eq t.isLt N_0
  obtain h | h | h | h | h | h | h | h | h | h | h | h | h | h | h | h : t.val = 0 ∨ t.val = 1 ∨ t.val = 2 ∨ t.val = 3 ∨ t.val = 4 ∨ t.val = 5 ∨ t.val = 6 ∨ t.val = 7 ∨ t.val = 8 ∨ t.val = 9 ∨ t.val = 10 ∨ t.val = 11 ∨ t.val = 12 ∨ t.val = 13 ∨ t.val = 14 ∨ t.val = 15 := by omega
  · exact outs_A V c t h y
  · exact outs_B V c t h y
  · exact outs_C V c t h y
  · exact outs_D V c t h y
  · exact outs_E V c t h y
  · exact outs_F V c t h y
  · exact outs_G V c t h y
  · exact outs_H V c t h y
  · exact outs_I V c t h y
  · exact outs_J V c t h y
  · exact outs_K V c t h y
  · exact outs_L V c t h y
  · exact outs_M V c t h y
  · exact outs_N V c t h y
  · exact outs_O V c t h y
  · exact outs_P V c t h y

theorem idx0 : ∀ t : Fin cfg0.N, win0_0.index t = ![0, 0, 0] ∧ win0_1.index t = ![t.val, 0, 0] :=
  (by decide +kernel : ∀ t : Fin grid0.N, _)

/-- The array of planes: plane `q` at `(Y, X)` is the padded source at the plane's channel, moved by its row and column. -/
def planesOf (x : FVec Ideal S10x392x392 .f32) : FVec Ideal S112x384x384 .f32 := fun j =>
  x (planeIdx (j 0) (j 1) (j 2) (j 1).isLt (j 2).isLt)

theorem planes_eq (c : Dev nD) :
    (dat0 V c).arrAt 1 cfg0.N = planesOf (show FVec Ideal S10x392x392 .f32 from V c main_v4) := by
  refine (dat0 V c).arrAt_eq_of_covers 1 _ (by decide +kernel) fun t hf y => ?_
  blk_simp
  rw [after0_1]
  refine (outs_eq V c t y).trans ?_
  unfold planesBlock planesOf planeIdx
  blk_ext [iblk0, idx0 t]
  all_goals rw [Nat.mul_comm]

end Cert.Proof

end
-- ==== Proof.Region1.lean ====
/- What the second kernel leaves in its result: the packed network at every pixel of every expert's cell. -/
module

public import proofs.«01_k».proof.Proof.PackedNet
public import proofs.«01_k».proof.Proof.Gen.KernelIdeal.Frame
public import Idealize.ShloMosaic.Lib.Pipeline.ValueKit

@[expose] public section

set_option maxRecDepth 16384

noncomputable section

namespace Cert.Proof

open Idealize.ShloMosaic Idealize.ShloMosaic.TcCoe Idealize.ShloMosaic.Tactic Idealize.SL.Sem
open Cert.KernelIdeal Cert.KernelIdeal.Gen
open Idealize.ShloMosaic.Pipeline (Dat)

/-- The packed network of channel `c` at pixel `p`, on one expert's blocks. -/
def blockNet (x0 : FVec Ideal S1x9216x112 .f32) (x1 : FVec Ideal S1x3x112x65 .f32) (x2 : FVec Ideal S1x3x2x65x65 .f32)
    (x3 : FVec Ideal S1x3x65x4 .f32) (p : Fin 9216) (c : Fin 3) (k : Fin 4) : EReal :=
  packedNet (fun q => x0 (ix3 (0 : Fin 1) p q)) (fun q i => x1 (ix4 (0 : Fin 1) c q i))
    (fun i j => x2 (ix5 (0 : Fin 1) c (0 : Fin 2) i j)) (fun i j => x2 (ix5 (0 : Fin 1) c (1 : Fin 2) i j))
    (fun i j => x3 (ix4 (0 : Fin 1) c i j)) k

theorem out_eq (x0 : FVec Ideal S1x9216x112 .f32) (x1 : FVec Ideal S1x3x112x65 .f32) (x2 : FVec Ideal S1x3x2x65x65 .f32)
    (x3 : FVec Ideal S1x3x65x4 .f32) (y : S1x9216x12.Idx) (p : Fin 9216) (c : Fin 3) (k : Fin 4) (hp : p.val = (y 1).val)
    (hy : (y 2).val = 4 * c.val + k.val) :
    (show FVec Ideal S1x9216x12 .f32 from out1_4 (F := Ideal) x0 x1 x2 x3) y = blockNet x0 x1 x2 x3 p c k := by
  unfold blockNet packedNet layer rowTimes
  unfold_out out1_4
  canon_tiles x h
  all_goals
    open_payloads
    pointwise
    obtain rfl : p = x 1 := Fin.ext (by omega)
    obtain rfl : k = x 2 := Fin.ext (by omega)
  · obtain rfl : c = 2 := by omega
    rfl
  · obtain rfl : c = 1 := by omega
    rfl
  · obtain rfl : c = 0 := by omega
    rfl

theorem idx1 : ∀ t : Fin cfg1.N, win1_0.index t = ![t.val, 0, 0] ∧ win1_1.index t = ![t.val, 0, 0, 0]
    ∧ win1_2.index t = ![t.val, 0, 0, 0, 0] ∧ win1_3.index t = ![t.val, 0, 0, 0] ∧ win1_4.index t = ![t.val, 0, 0] :=
  (by decide +kernel : ∀ t : Fin grid1.N, _)

/-- The packed network of every pixel: channel `j 2 / 4`, output `j 2 % 4`, of expert `j 0` at pixel `j 1` of its cell. -/
def netsOf (x0 : FVec Ideal S16x9216x112 .f32) (x1 : FVec Ideal S16x3x112x65 .f32) (x2 : FVec Ideal S16x3x2x65x65 .f32)
    (x3 : FVec Ideal S16x3x65x4 .f32) (e : Fin 16) (p : Fin 9216) (c : Fin 3) (k : Fin 4) : EReal :=
  packedNet (fun q => x0 (ix3 e p q)) (fun q i => x1 (ix4 e c q i)) (fun i j => x2 (ix5 e c (0 : Fin 2) i j))
    (fun i j => x2 (ix5 e c (1 : Fin 2) i j)) (fun i j => x3 (ix4 e c i j)) k

variable (V : (c : Dev nD) → (b : Ref sig .tc) → Buf (Elt Ideal) ((c : Thread nD τ).loc b))

theorem nets_eq (c : Dev nD) :
    (dat1 V c).arrAt 4 cfg1.N = fun j : S16x9216x12.Idx =>
      netsOf (show FVec Ideal S16x9216x112 .f32 from V c main_v8) (show FVec Ideal S16x3x112x65 .f32 from V c main_v30)
        (show FVec Ideal S16x3x2x65x65 .f32 from V c main_v79) (show FVec Ideal S16x3x65x4 .f32 from V c main_v89)
        (j 0) (j 1) ⟨(j 2).val / 4, by have : (j 2).val < 12 := (j 2).isLt; omega⟩ ⟨(j 2).val % 4, by omega⟩ := by
  refine (dat1 V c).arrAt_eq_of_covers 4 _ (by decide +kernel) fun t hf y => ?_
  blk_simp
  rw [after1_4]
  have hy : (y 2 : ℕ) < 12 := (y 2).isLt
  refine (out_eq _ _ _ _ y (y 1) ⟨(y 2 : ℕ) / 4, by omega⟩ ⟨(y 2 : ℕ) % 4, by omega⟩ rfl (by simp; omega)).trans ?_
  unfold blockNet netsOf
  blk_point [iblk1, idx1 t]

end Cert.Proof

end
-- ==== Proof.Source.lean ====
/- The padded source the first kernel reads: three image channels, six synthesis channels and a channel of ones, with a
   border of four zeros. -/
module

public import proofs.«01_k».proof.Proof.Gen.KernelIdeal.Frame
public import Idealize.ShloMosaic.Lib.Pipeline.ValueKit
public import Idealize.ShloMosaic.Lib.Claim
public import Idealize.ShloMosaic.Lib.StableHlo.ReadAt

@[expose] public section

set_option maxRecDepth 16384

noncomputable section

namespace Cert.Proof

open Cert.KernelIdeal Cert.KernelIdeal.Gen
open Idealize.ShloMosaic Idealize.ShloMosaic.TcCoe Idealize.ShloMosaic.Tactic Idealize.SL.Sem Idealize.ShloMosaic.StableHlo

/-- Channel `a` of the source at `(Y, X)` of the image, before padding. -/
def sourceAt (img : FVec Ideal S1x3x384x384 .f32) (syn : FVec Ideal S1x6x384x384 .f32) (a : ℕ) (Y X : Fin 384) : EReal :=
  if h : a < 3 then img (ix4 (0 : Fin 1) (⟨a, h⟩ : Fin 3) Y X)
  else if h' : a - 3 < 6 then syn (ix4 (0 : Fin 1) (⟨a - 3, h'⟩ : Fin 6) Y X) else 1

/-- The padded source at `(r, x)`. -/
def paddedAt (img : FVec Ideal S1x3x384x384 .f32) (syn : FVec Ideal S1x6x384x384 .f32) (a r x : ℕ) : EReal :=
  if h : (4 ≤ r ∧ r - 4 < 384) ∧ 4 ≤ x ∧ x - 4 < 384 then
    sourceAt img syn a ⟨r - 4, by omega⟩ ⟨x - 4, by omega⟩
  else 0

/-- The integer zero as a float is zero. -/
theorem sitofp_zero : FloatOps.sitofp (F := Ideal) .f32 (0#32) = (0 : EReal) := by
  show (((0#32 : BitVec 32).toInt : ℝ) : EReal) = 0
  simp

theorem source_eq (W : Valuation τ sig (Elt Ideal)) (i : S10x392x392.Idx) :
    (show FVec Ideal S10x392x392 .f32 from after hostOps0_1 (after hostOps0 W) (Proc.devRef .tc main_v4)) i
      = paddedAt (show FVec Ideal S1x3x384x384 .f32 from W (Proc.devRef .tc main_arg0))
          (show FVec Ideal S1x6x384x384 .f32 from W (Proc.devRef .tc main_arg1)) (i 0) (i 1) (i 2) := by
  unfold paddedAt sourceAt
  after_reads_at
  after_reads_at
  rw [sitofp_zero]

end Cert.Proof

end
-- ==== Proof.Packing.lean ====
/- The weights the host packs for the second kernel, read entry by entry. -/
module

public import proofs.«01_k».proof.Proof.PackedWeights
public import proofs.«01_k».proof.Proof.Gen.KernelIdeal.Frame
public import Idealize.ShloMosaic.Lib.Pipeline.ValueKit
public import Idealize.ShloMosaic.Lib.StableHlo.ReadAt
public import proofs.«01_k».proof.Proof.Source

@[expose] public section

set_option maxRecDepth 16384

noncomputable section

namespace Cert.Proof

open Cert.KernelIdeal Cert.KernelIdeal.Gen
open Idealize.ShloMosaic Idealize.ShloMosaic.TcCoe Idealize.ShloMosaic.Tactic Idealize.SL.Sem Idealize.ShloMosaic.StableHlo

/-- The buffers after every line of host operations between the two kernels. -/
abbrev packed (W : Valuation τ sig (Elt Ideal)) : Valuation τ sig (Elt Ideal) :=
  after hostOps1_6 (after hostOps1_5 (after hostOps1_4 (after hostOps1_3 (after hostOps1_2 (after hostOps1_1 (after hostOps1 W))))))

/-- The identity matrix as the host makes it: one where the row's number is the column's. -/
theorem eye_at (i j : Fin 65) :
    FloatOps.uitofp (F := Ideal) .f32 (IntOp.cmpi .eq (IntOp.addi (BitVec.ofNat 32 i.val) 0#32) (BitVec.ofNat 32 j.val))
      = (if i.val = j.val then 1 else 0 : EReal) := by
  have h : (BitVec.ofNat 32 i.val = BitVec.ofNat 32 j.val) ↔ i.val = j.val := by
    constructor
    · intro h
      have := congrArg BitVec.toNat h
      simp only [BitVec.toNat_ofNat] at this
      omega
    · intro h; rw [h]
  show (((IntOp.cmpi .eq (IntOp.addi (BitVec.ofNat 32 i.val) 0#32) (BitVec.ofNat 32 j.val)).toNat : ℝ) : EReal) = _
  have h2 : IntOp.addi (BitVec.ofNat 32 i.val) 0#32 = BitVec.ofNat 32 i.val := by simp [IntOp.addi]
  rw [h2]
  by_cases hij : i.val = j.val
  · rw [if_pos hij, hij]; simp [IntOp.cmpi]
  · rw [if_neg hij]
    have : ¬ (BitVec.ofNat 32 i.val = BitVec.ofNat 32 j.val) := fun e => hij (h.mp e)
    simp [IntOp.cmpi, this]

/-- The three tables of the last column are one at row 105 and zero elsewhere. -/
theorem table_at (f : Fin 112 → BitVec 32) (hf : ∀ q : Fin 112, f q = if q.val = 105 then 0x3F800000#32 else 0#32)
    (q : Fin 112) : FloatOps.ofBits (F := Ideal) .f32 (f q) = (if q.val = 105 then 1 else 0 : EReal) := by
  rw [hf]
  split_ifs
  · pointwise
  · pointwise

theorem w0_eq0 (W : Valuation τ sig (Elt Ideal)) (e : Fin 16) (q : Fin 112) (j : Fin 65)
    (hc : (show FVec Ideal S112x1 .f32 from W (Proc.devRef .tc main_cst)) (ix2 q 0) = (if q.val = 105 then 1 else 0 : EReal)) :
    (show FVec Ideal S16x3x112x65 .f32 from packed W (Proc.devRef .tc main_v30)) (ix4 e (0 : Fin 3) q j)
      = w0At (show FVec Ideal S16x102x64 .f32 from W (Proc.devRef .tc main_arg2))
          (show FVec Ideal S16x64 .f32 from W (Proc.devRef .tc main_arg3)) e q j := by
  unfold packed w0At
  rw [← hc]
  repeat after_reads_at
  simp only [sitofp_zero]

theorem wh_eq0 (W : Valuation τ sig (Elt Ideal)) (e : Fin 16) (l : Fin 2) (i j : Fin 65) :
    (show FVec Ideal S16x3x2x65x65 .f32 from packed W (Proc.devRef .tc main_v79)) (ix5 e (0 : Fin 3) l i j)
      = whAt (show FVec Ideal S16x2x64x64 .f32 from W (Proc.devRef .tc main_arg4))
          (show FVec Ideal S16x2x64 .f32 from W (Proc.devRef .tc main_arg5)) e l i j := by
  unfold packed whAt
  repeat after_reads_at
  rw [eye_at]

theorem wo_eq0 (W : Valuation τ sig (Elt Ideal)) (e : Fin 16) (i : Fin 65) (k : Fin 4) :
    (show FVec Ideal S16x3x65x4 .f32 from packed W (Proc.devRef .tc main_v89)) (ix4 e (0 : Fin 3) i k)
      = woAt (show FVec Ideal S16x64x4 .f32 from W (Proc.devRef .tc main_arg6))
          (show FVec Ideal S16x4 .f32 from W (Proc.devRef .tc main_arg7)) e i k := by
  unfold packed woAt
  repeat after_reads_at

theorem w0_eq1 (W : Valuation τ sig (Elt Ideal)) (e : Fin 16) (q : Fin 112) (j : Fin 65)
    (hc : (show FVec Ideal S112x1 .f32 from W (Proc.devRef .tc main_cst_0)) (ix2 q 0) = (if q.val = 105 then 1 else 0 : EReal)) :
    (show FVec Ideal S16x3x112x65 .f32 from packed W (Proc.devRef .tc main_v30)) (ix4 e (1 : Fin 3) q j)
      = w0At (show FVec Ideal S16x103x64 .f32 from W (Proc.devRef .tc main_arg8))
          (show FVec Ideal S16x64 .f32 from W (Proc.devRef .tc main_arg9)) e q j := by
  unfold packed w0At
  rw [← hc]
  repeat after_reads_at
  simp only [sitofp_zero]

theorem wh_eq1 (W : Valuation τ sig (Elt Ideal)) (e : Fin 16) (l : Fin 2) (i j : Fin 65) :
    (show FVec Ideal S16x3x2x65x65 .f32 from packed W (Proc.devRef .tc main_v79)) (ix5 e (1 : Fin 3) l i j)
      = whAt (show FVec Ideal S16x2x64x64 .f32 from W (Proc.devRef .tc main_arg10))
          (show FVec Ideal S16x2x64 .f32 from W (Proc.devRef .tc main_arg11)) e l i j := by
  unfold packed whAt
  repeat after_reads_at
  rw [eye_at]

theorem wo_eq1 (W : Valuation τ sig (Elt Ideal)) (e : Fin 16) (i : Fin 65) (k : Fin 4) :
    (show FVec Ideal S16x3x65x4 .f32 from packed W (Proc.devRef .tc main_v89)) (ix4 e (1 : Fin 3) i k)
      = woAt (show FVec Ideal S16x64x4 .f32 from W (Proc.devRef .tc main_arg12))
          (show FVec Ideal S16x4 .f32 from W (Proc.devRef .tc main_arg13)) e i k := by
  unfold packed woAt
  repeat after_reads_at

theorem w0_eq2 (W : Valuation τ sig (Elt Ideal)) (e : Fin 16) (q : Fin 112) (j : Fin 65)
    (hc : (show FVec Ideal S112x1 .f32 from W (Proc.devRef .tc main_cst_1)) (ix2 q 0) = (if q.val = 105 then 1 else 0 : EReal)) :
    (show FVec Ideal S16x3x112x65 .f32 from packed W (Proc.devRef .tc main_v30)) (ix4 e (2 : Fin 3) q j)
      = w0At (show FVec Ideal S16x104x64 .f32 from W (Proc.devRef .tc main_arg14))
          (show FVec Ideal S16x64 .f32 from W (Proc.devRef .tc main_arg15)) e q j := by
  unfold packed w0At
  rw [← hc]
  repeat after_reads_at
  simp only [sitofp_zero]

theorem wh_eq2 (W : Valuation τ sig (Elt Ideal)) (e : Fin 16) (l : Fin 2) (i j : Fin 65) :
    (show FVec Ideal S16x3x2x65x65 .f32 from packed W (Proc.devRef .tc main_v79)) (ix5 e (2 : Fin 3) l i j)
      = whAt (show FVec Ideal S16x2x64x64 .f32 from W (Proc.devRef .tc main_arg16))
          (show FVec Ideal S16x2x64 .f32 from W (Proc.devRef .tc main_arg17)) e l i j := by
  unfold packed whAt
  repeat after_reads_at
  rw [eye_at]

theorem wo_eq2 (W : Valuation τ sig (Elt Ideal)) (e : Fin 16) (i : Fin 65) (k : Fin 4) :
    (show FVec Ideal S16x3x65x4 .f32 from packed W (Proc.devRef .tc main_v89)) (ix4 e (2 : Fin 3) i k)
      = woAt (show FVec Ideal S16x64x4 .f32 from W (Proc.devRef .tc main_arg18))
          (show FVec Ideal S16x4 .f32 from W (Proc.devRef .tc main_arg19)) e i k := by
  unfold packed woAt
  repeat after_reads_at

end Cert.Proof

end
-- ==== Proof.Cells.lean ====
/- The planes regrouped by expert cell: pixel `p` of expert `e`'s 96 by 96 cell, its 112 planes in a row. -/
module

public import proofs.«01_k».proof.Proof.Packing
public import Idealize.ShloMosaic.Lib.Pipeline.ValueKit
public import Idealize.ShloMosaic.Lib.StableHlo.ReadAt

@[expose] public section

set_option maxRecDepth 16384

noncomputable section

namespace Cert.Proof

open Cert.KernelIdeal Cert.KernelIdeal.Gen
open Idealize.ShloMosaic Idealize.ShloMosaic.TcCoe Idealize.ShloMosaic.Tactic Idealize.SL.Sem Idealize.ShloMosaic.StableHlo

theorem cells_eq (W : Valuation τ sig (Elt Ideal)) (e : Fin 16) (p : Fin 9216) (q : Fin 112) :
    (show FVec Ideal S16x9216x112 .f32 from packed W (Proc.devRef .tc main_v8)) (ix3 e p q)
      = (show FVec Ideal S112x384x384 .f32 from W (Proc.devRef .tc main_v5))
          (ix3 q (⟨e.val / 4 * 96 + p.val / 96, by omega⟩ : Fin 384) (⟨e.val % 4 * 96 + p.val % 96, by omega⟩ : Fin 384)) := by
  unfold packed
  after_reads_at

theorem tail_eq (W : Valuation τ sig (Elt Ideal)) (n : Fin 147456) (c : Fin 3) (k : Fin 4) :
    (show FVec Ideal S147456x3x4 .f32 from after hostOps2 W (Proc.devRef .tc main_v93)) (ix3 n c k)
      = (show FVec Ideal S16x9216x12 .f32 from W (Proc.devRef .tc main_v90))
          (ix3 (⟨n.val / 384 / 96 * 4 + n.val % 384 / 96, by omega⟩ : Fin 16)
            (⟨n.val / 384 % 96 * 96 + n.val % 384 % 96, by omega⟩ : Fin 9216) (⟨4 * c.val + k.val, by omega⟩ : Fin 12)) := by
  after_reads_at
  refine congrArg _ ?_
  congr 1 <;> (apply Fin.ext; dsimp only; omega)

end Cert.Proof

end
-- ==== Proof.KernelValue.lean ====
/- The kernel's result at pixel `n`, channel and output: the packed network of the pixel's planes and its expert's packed
   weights. -/
module

public import proofs.«01_k».proof.Proof.Region0
public import proofs.«01_k».proof.Proof.Region1
public import proofs.«01_k».proof.Proof.Source
public import proofs.«01_k».proof.Proof.Packing
public import proofs.«01_k».proof.Proof.Cells

@[expose] public section

set_option maxRecDepth 16384

noncomputable section

namespace Cert.Proof

open Cert.KernelIdeal Cert.KernelIdeal.Gen
open Idealize.ShloMosaic Idealize.ShloMosaic.TcCoe Idealize.ShloMosaic.Tactic Idealize.SL.Sem Idealize.ShloMosaic.StableHlo

/-- The expert of pixel `n`: the cell of the four by four grid that holds it. -/
def expertOf (n : Fin 147456) : Fin 16 := ⟨n.val / 384 / 96 * 4 + n.val % 384 / 96, by omega⟩

/-- Plane `q` at pixel `n`. -/
def planeAt (img : FVec Ideal S1x3x384x384 .f32) (syn : FVec Ideal S1x6x384x384 .f32) (n : Fin 147456) (q : Fin 112) : EReal :=
  paddedAt img syn (planeChan q) (planeRow q + n.val / 384) (planeCol q + n.val % 384)

/-- One channel's packed network at pixel `n`. -/
def netAt {d : ℕ} (img : FVec Ideal S1x3x384x384 .f32) (syn : FVec Ideal S1x6x384x384 .f32)
    (w0 : FVec Ideal ⟨3, ![16, d, 64]⟩ .f32) (b0 : FVec Ideal ⟨2, ![16, 64]⟩ .f32)
    (wh : FVec Ideal ⟨4, ![16, 2, 64, 64]⟩ .f32) (bh : FVec Ideal ⟨3, ![16, 2, 64]⟩ .f32)
    (wo : FVec Ideal ⟨3, ![16, 64, 4]⟩ .f32) (bo : FVec Ideal ⟨2, ![16, 4]⟩ .f32) (n : Fin 147456) (k : Fin 4) : EReal :=
  packedNet (planeAt img syn n) (w0At w0 b0 (expertOf n)) (whAt wh bh (expertOf n) 0) (whAt wh bh (expertOf n) 1)
    (woAt wo bo (expertOf n)) k

variable (m : (ℓ : Loc nD τ sig) → Buf (Elt Ideal) ℓ) (ρ : Dev nD → PrngReg)

/-- Before the first kernel the padded source is in place. -/
theorem entry_source (c : Dev nD) (i : S10x392x392.Idx) :
    (show FVec Ideal S10x392x392 .f32 from V2 m ρ c main_v4) i
      = paddedAt (show FVec Ideal S1x3x384x384 .f32 from m ((c : Thread nD τ).loc main_arg0))
          (show FVec Ideal S1x6x384x384 .f32 from m ((c : Thread nD τ).loc main_arg1)) (i 0) (i 1) (i 2) :=
  source_eq (W0 m ρ c) i

/-- After the first kernel the planes are in place. -/
theorem exit_planes (c : Dev nD) (q : Fin 112) (Y X : Fin 384) :
    (show FVec Ideal S112x384x384 .f32 from W3 m ρ c (Proc.devRef .tc main_v5)) (ix3 q Y X)
      = paddedAt (show FVec Ideal S1x3x384x384 .f32 from m ((c : Thread nD τ).loc main_arg0))
          (show FVec Ideal S1x6x384x384 .f32 from m ((c : Thread nD τ).loc main_arg1))
          (planeChan q) (planeRow q + Y) (planeCol q + X) := by
  have h := (W3_arr m ρ c 1).trans (planes_eq (V2 m ρ) c)
  refine (congrFun h (ix3 q Y X)).trans ?_
  exact entry_source m ρ c _

theorem exit_table0 (c : Dev nD) (q : Fin 112) :
    (show FVec Ideal S112x1 .f32 from W3 m ρ c (Proc.devRef .tc main_cst)) (ix2 q 0) = (if q.val = 105 then 1 else 0 : EReal) := by
  rw [W3_of m ρ c main_cst (by decide +kernel)]
  unfold W2 W1
  after_reads_at
  exact table_at (fun q => lit0 (S112x1.rowMajor (ix2 q (0 : Fin 1)))) (by decide +kernel) q

theorem exit_table1 (c : Dev nD) (q : Fin 112) :
    (show FVec Ideal S112x1 .f32 from W3 m ρ c (Proc.devRef .tc main_cst_0)) (ix2 q 0) = (if q.val = 105 then 1 else 0 : EReal) := by
  rw [W3_of m ρ c main_cst_0 (by decide +kernel)]
  unfold W2 W1
  after_reads_at
  exact table_at (fun q => lit1 (S112x1.rowMajor (ix2 q (0 : Fin 1)))) (by decide +kernel) q

theorem exit_table2 (c : Dev nD) (q : Fin 112) :
    (show FVec Ideal S112x1 .f32 from W3 m ρ c (Proc.devRef .tc main_cst_1)) (ix2 q 0) = (if q.val = 105 then 1 else 0 : EReal) := by
  rw [W3_of m ρ c main_cst_1 (by decide +kernel)]
  unfold W2 W1
  after_reads_at
  exact table_at (fun q => lit2 (S112x1.rowMajor (ix2 q (0 : Fin 1)))) (by decide +kernel) q

theorem result_at (c : Dev nD) (n : Fin 147456) (ch : Fin 3) (k : Fin 4) :
    (show FVec Ideal S147456x3x4 .f32 from W12 m ρ c (Proc.devRef .tc main_v93)) (ix3 n ch k)
      = netsOf (show FVec Ideal S16x9216x112 .f32 from W10 m ρ c (Proc.devRef .tc main_v8))
        (show FVec Ideal S16x3x112x65 .f32 from W10 m ρ c (Proc.devRef .tc main_v30))
        (show FVec Ideal S16x3x2x65x65 .f32 from W10 m ρ c (Proc.devRef .tc main_v79))
        (show FVec Ideal S16x3x65x4 .f32 from W10 m ρ c (Proc.devRef .tc main_v89))
        (expertOf n) ⟨n.val / 384 % 96 * 96 + n.val % 384 % 96, by omega⟩ ch k := by
  refine (tail_eq (W11 m ρ c) n ch k).trans ?_
  have h := (W11_arr m ρ c 4).trans (nets_eq (V10 m ρ) c)
  refine (congrFun h _).trans ?_
  show netsOf _ _ _ _ _ _ (⟨(4 * ch.val + k.val) / 4, _⟩ : Fin 3) (⟨(4 * ch.val + k.val) % 4, _⟩ : Fin 4) = _
  congr 1
  · exact Fin.ext (by dsimp only; omega)
  · exact Fin.ext (by dsimp only; omega)

/-- Pixel `n`'s row of planes, as the second kernel finds it. -/
theorem cell_planes (c : Dev nD) (n : Fin 147456) (q : Fin 112) :
    (show FVec Ideal S16x9216x112 .f32 from W10 m ρ c (Proc.devRef .tc main_v8))
        (ix3 (expertOf n) (⟨n.val / 384 % 96 * 96 + n.val % 384 % 96, by omega⟩ : Fin 9216) q)
      = planeAt (show FVec Ideal S1x3x384x384 .f32 from m ((c : Thread nD τ).loc main_arg0))
          (show FVec Ideal S1x6x384x384 .f32 from m ((c : Thread nD τ).loc main_arg1)) n q := by
  refine (cells_eq (W3 m ρ c) _ _ q).trans ((exit_planes m ρ c q _ _).trans ?_)
  unfold planeAt expertOf
  dsimp only
  congr 2 <;> omega

/-- The kernel's result for channel 0. -/
theorem kernel_at0 (c : Dev nD) (n : Fin 147456) (k : Fin 4) :
    (show FVec Ideal S147456x3x4 .f32 from W12 m ρ c (Proc.devRef .tc main_v93)) (ix3 n (0 : Fin 3) k)
      = netAt (show FVec Ideal S1x3x384x384 .f32 from m ((c : Thread nD τ).loc main_arg0)) (show FVec Ideal S1x6x384x384 .f32 from m ((c : Thread nD τ).loc main_arg1))
          (show FVec Ideal S16x102x64 .f32 from m ((c : Thread nD τ).loc main_arg2)) (show FVec Ideal S16x64 .f32 from m ((c : Thread nD τ).loc main_arg3))
          (show FVec Ideal S16x2x64x64 .f32 from m ((c : Thread nD τ).loc main_arg4)) (show FVec Ideal S16x2x64 .f32 from m ((c : Thread nD τ).loc main_arg5))
          (show FVec Ideal S16x64x4 .f32 from m ((c : Thread nD τ).loc main_arg6)) (show FVec Ideal S16x4 .f32 from m ((c : Thread nD τ).loc main_arg7)) n k := by
  refine (result_at m ρ c n 0 k).trans (packedNet_congr (fun q => cell_planes m ρ c n q) (fun q j => ?_) (fun i j => ?_)
    (fun i j => ?_) (fun i j => ?_) k)
  · refine (w0_eq0 (W3 m ρ c) (expertOf n) q j (exit_table0 m ρ c q)).trans ?_
    rw [W3_args m ρ c main_arg2 (by decide), W3_args m ρ c main_arg3 (by decide)]
  · refine (wh_eq0 (W3 m ρ c) (expertOf n) 0 i j).trans ?_
    rw [W3_args m ρ c main_arg4 (by decide), W3_args m ρ c main_arg5 (by decide)]
  · refine (wh_eq0 (W3 m ρ c) (expertOf n) 1 i j).trans ?_
    rw [W3_args m ρ c main_arg4 (by decide), W3_args m ρ c main_arg5 (by decide)]
  · refine (wo_eq0 (W3 m ρ c) (expertOf n) i j).trans ?_
    rw [W3_args m ρ c main_arg6 (by decide), W3_args m ρ c main_arg7 (by decide)]

/-- The kernel's result for channel 1. -/
theorem kernel_at1 (c : Dev nD) (n : Fin 147456) (k : Fin 4) :
    (show FVec Ideal S147456x3x4 .f32 from W12 m ρ c (Proc.devRef .tc main_v93)) (ix3 n (1 : Fin 3) k)
      = netAt (show FVec Ideal S1x3x384x384 .f32 from m ((c : Thread nD τ).loc main_arg0)) (show FVec Ideal S1x6x384x384 .f32 from m ((c : Thread nD τ).loc main_arg1))
          (show FVec Ideal S16x103x64 .f32 from m ((c : Thread nD τ).loc main_arg8)) (show FVec Ideal S16x64 .f32 from m ((c : Thread nD τ).loc main_arg9))
          (show FVec Ideal S16x2x64x64 .f32 from m ((c : Thread nD τ).loc main_arg10)) (show FVec Ideal S16x2x64 .f32 from m ((c : Thread nD τ).loc main_arg11))
          (show FVec Ideal S16x64x4 .f32 from m ((c : Thread nD τ).loc main_arg12)) (show FVec Ideal S16x4 .f32 from m ((c : Thread nD τ).loc main_arg13)) n k := by
  refine (result_at m ρ c n 1 k).trans (packedNet_congr (fun q => cell_planes m ρ c n q) (fun q j => ?_) (fun i j => ?_)
    (fun i j => ?_) (fun i j => ?_) k)
  · refine (w0_eq1 (W3 m ρ c) (expertOf n) q j (exit_table1 m ρ c q)).trans ?_
    rw [W3_args m ρ c main_arg8 (by decide), W3_args m ρ c main_arg9 (by decide)]
  · refine (wh_eq1 (W3 m ρ c) (expertOf n) 0 i j).trans ?_
    rw [W3_args m ρ c main_arg10 (by decide), W3_args m ρ c main_arg11 (by decide)]
  · refine (wh_eq1 (W3 m ρ c) (expertOf n) 1 i j).trans ?_
    rw [W3_args m ρ c main_arg10 (by decide), W3_args m ρ c main_arg11 (by decide)]
  · refine (wo_eq1 (W3 m ρ c) (expertOf n) i j).trans ?_
    rw [W3_args m ρ c main_arg12 (by decide), W3_args m ρ c main_arg13 (by decide)]

/-- The kernel's result for channel 2. -/
theorem kernel_at2 (c : Dev nD) (n : Fin 147456) (k : Fin 4) :
    (show FVec Ideal S147456x3x4 .f32 from W12 m ρ c (Proc.devRef .tc main_v93)) (ix3 n (2 : Fin 3) k)
      = netAt (show FVec Ideal S1x3x384x384 .f32 from m ((c : Thread nD τ).loc main_arg0)) (show FVec Ideal S1x6x384x384 .f32 from m ((c : Thread nD τ).loc main_arg1))
          (show FVec Ideal S16x104x64 .f32 from m ((c : Thread nD τ).loc main_arg14)) (show FVec Ideal S16x64 .f32 from m ((c : Thread nD τ).loc main_arg15))
          (show FVec Ideal S16x2x64x64 .f32 from m ((c : Thread nD τ).loc main_arg16)) (show FVec Ideal S16x2x64 .f32 from m ((c : Thread nD τ).loc main_arg17))
          (show FVec Ideal S16x64x4 .f32 from m ((c : Thread nD τ).loc main_arg18)) (show FVec Ideal S16x4 .f32 from m ((c : Thread nD τ).loc main_arg19)) n k := by
  refine (result_at m ρ c n 2 k).trans (packedNet_congr (fun q => cell_planes m ρ c n q) (fun q j => ?_) (fun i j => ?_)
    (fun i j => ?_) (fun i j => ?_) k)
  · refine (w0_eq2 (W3 m ρ c) (expertOf n) q j (exit_table2 m ρ c q)).trans ?_
    rw [W3_args m ρ c main_arg14 (by decide), W3_args m ρ c main_arg15 (by decide)]
  · refine (wh_eq2 (W3 m ρ c) (expertOf n) 0 i j).trans ?_
    rw [W3_args m ρ c main_arg16 (by decide), W3_args m ρ c main_arg17 (by decide)]
  · refine (wh_eq2 (W3 m ρ c) (expertOf n) 1 i j).trans ?_
    rw [W3_args m ρ c main_arg16 (by decide), W3_args m ρ c main_arg17 (by decide)]
  · refine (wo_eq2 (W3 m ρ c) (expertOf n) i j).trans ?_
    rw [W3_args m ρ c main_arg18 (by decide), W3_args m ρ c main_arg19 (by decide)]

end Cert.Proof

end
-- ==== Proof.Context.lean ====
/- The reference's context: the padded image and its thirty-two shifted copies, read at a pixel. -/
module

public import proofs.«01_k».proof.Proof.KernelValue
public import proofs.«01_k».proof.Proof.Gen.ReferenceIdeal.Read
public import Idealize.ShloMosaic.Lib.Pipeline.ValueKit

@[expose] public section

set_option maxRecDepth 16384

noncomputable section

namespace Cert.Proof

open Cert.ReferenceIdeal Cert.ReferenceIdeal.Gen Cert.ReferenceIdeal.Read
open Idealize.ShloMosaic Idealize.ShloMosaic.TcCoe Idealize.ShloMosaic.Tactic Idealize.SL.Sem Idealize.ShloMosaic.StableHlo

/-- The padded image at channel `a`, row `r` and column `x`. -/
theorem padded_at (x0 : FVec Ideal S1x3x384x384 .f32) (syn : FVec Ideal S1x6x384x384 .f32) (ch : Fin 3) (r x : Fin 392) :
    val_main_v1 (F := Ideal) x0 (ix3 ch r x) = paddedAt x0 syn ch.val r.val x.val := by
  unfold val_main_v1
  pointwise
  unfold paddedAt sourceAt
  by_cases h : (4 ≤ r.val ∧ r.val - 4 < 384) ∧ 4 ≤ x.val ∧ x.val - 4 < 384
  · rw [dif_pos h, dif_pos h, dif_pos ch.isLt, val_main_v0_apply]
    have hc := ch.isLt
    refine congrArg _ (funext fun a => Fin.ext ?_)
    match a with
    | ⟨0, _⟩ => rfl
    | ⟨1, _⟩ => show ((ch.val * 384 + (r.val - 4)) * 384 + (x.val - 4)) / 147456 % 3 = ch.val; omega
    | ⟨2, _⟩ => show ((ch.val * 384 + (r.val - 4)) * 384 + (x.val - 4)) / 384 % 384 = r.val - 4; omega
    | ⟨3, _⟩ => show ((ch.val * 384 + (r.val - 4)) * 384 + (x.val - 4)) % 384 = x.val - 4; omega
  · rw [dif_neg h, dif_neg h, val_main_cst_apply]
    pointwise

/-- The first sixteen shifted copies. -/
theorem stack66_at (x0 : FVec Ideal S1x3x384x384 .f32) (ch : Fin 3) (i : Fin 16) (Y X : Fin 384) :
    val_main_v66 (F := Ideal) x0 (ix4 ch i Y X)
      = val_main_v1 (F := Ideal) x0 (ix3 ch (⟨planeRow (i.val + 0) + Y.val, by have := planeRow_lt (i.val + 0); omega⟩ : Fin 392)
          (⟨planeCol (i.val + 0) + X.val, by have := planeCol_lt (i.val + 0); omega⟩ : Fin 392)) := by
  unfold val_main_v66
  fin_cases i <;> (pointwise; simp only [
    val_main_v34_apply, val_main_v35_apply, val_main_v36_apply, val_main_v37_apply, val_main_v38_apply,
    val_main_v39_apply, val_main_v40_apply, val_main_v41_apply, val_main_v42_apply, val_main_v43_apply,
    val_main_v44_apply, val_main_v45_apply, val_main_v46_apply, val_main_v47_apply, val_main_v48_apply,
    val_main_v49_apply, val_main_v2_apply, val_main_v3_apply, val_main_v4_apply, val_main_v5_apply, val_main_v6_apply,
    val_main_v7_apply, val_main_v8_apply, val_main_v9_apply, val_main_v10_apply, val_main_v11_apply, val_main_v12_apply,
    val_main_v13_apply, val_main_v14_apply, val_main_v15_apply, val_main_v16_apply, val_main_v17_apply])
  all_goals refine congrArg _ (funext fun a => Fin.ext ?_)
  all_goals
    match a with
    | ⟨0, _⟩ => rfl
    | ⟨1, _⟩ => first | rfl | exact (Nat.zero_add _).symm
    | ⟨2, _⟩ => first | rfl | exact (Nat.zero_add _).symm

/-- The last sixteen shifted copies. -/
theorem stack67_at (x0 : FVec Ideal S1x3x384x384 .f32) (ch : Fin 3) (i : Fin 16) (Y X : Fin 384) :
    val_main_v67 (F := Ideal) x0 (ix4 ch i Y X)
      = val_main_v1 (F := Ideal) x0 (ix3 ch (⟨planeRow (i.val + 16) + Y.val, by have := planeRow_lt (i.val + 16); omega⟩ : Fin 392)
          (⟨planeCol (i.val + 16) + X.val, by have := planeCol_lt (i.val + 16); omega⟩ : Fin 392)) := by
  unfold val_main_v67
  fin_cases i <;> (pointwise; simp only [
    val_main_v50_apply, val_main_v51_apply, val_main_v52_apply, val_main_v53_apply, val_main_v54_apply,
    val_main_v55_apply, val_main_v56_apply, val_main_v57_apply, val_main_v58_apply, val_main_v59_apply,
    val_main_v60_apply, val_main_v61_apply, val_main_v62_apply, val_main_v63_apply, val_main_v64_apply,
    val_main_v65_apply, val_main_v18_apply, val_main_v19_apply, val_main_v20_apply, val_main_v21_apply,
    val_main_v22_apply, val_main_v23_apply, val_main_v24_apply, val_main_v25_apply, val_main_v26_apply,
    val_main_v27_apply, val_main_v28_apply, val_main_v29_apply, val_main_v30_apply, val_main_v31_apply,
    val_main_v32_apply, val_main_v33_apply])
  all_goals refine congrArg _ (funext fun a => Fin.ext ?_)
  all_goals
    match a with
    | ⟨0, _⟩ => rfl
    | ⟨1, _⟩ => first | rfl | exact (Nat.zero_add _).symm
    | ⟨2, _⟩ => first | rfl | exact (Nat.zero_add _).symm

/-- All thirty-two shifted copies. -/
theorem stack_at (x0 : FVec Ideal S1x3x384x384 .f32) (ch : Fin 3) (i : Fin 32) (Y X : Fin 384) :
    val_main_v68 (F := Ideal) x0 (ix4 ch i Y X)
      = val_main_v1 (F := Ideal) x0 (ix3 ch (⟨planeRow i.val + Y.val, by have := planeRow_lt i.val; omega⟩ : Fin 392)
          (⟨planeCol i.val + X.val, by have := planeCol_lt i.val; omega⟩ : Fin 392)) := by
  unfold val_main_v68
  by_cases h : i.val < 16
  · refine Eq.trans ?_ (stack66_at x0 ch ⟨i.val, h⟩ Y X)
    pointwise
    rw [dif_pos h]
  · refine Eq.trans (b := val_main_v67 (F := Ideal) x0 (ix4 ch (⟨i.val - 16, by omega⟩ : Fin 16) Y X)) ?_ ?_
    · pointwise
      rw [dif_neg h]
    · refine (stack67_at x0 ch ⟨i.val - 16, by omega⟩ Y X).trans ?_
      have e : i.val - 16 + 16 = i.val := by omega
      simp only [e]

/-- The context of pixel `n`: its `q`-th value. -/
theorem context_at (x0 : FVec Ideal S1x3x384x384 .f32) (syn : FVec Ideal S1x6x384x384 .f32) (n : Fin 147456) (q : Fin 96) :
    val_main_v70 (F := Ideal) x0 (ix2 n q) = planeAt x0 syn n ⟨q.val, by omega⟩ := by
  rw [val_main_v70_apply, val_main_v69_apply]
  have hi : idx_main_v69 (idx_main_v70 (ix2 n q)) = ix4 (⟨q.val / 32, by omega⟩ : Fin 3) (⟨q.val % 32, by omega⟩ : Fin 32)
      (⟨n.val / 384, by omega⟩ : Fin 384) (⟨n.val % 384, by omega⟩ : Fin 384) := by
    funext a
    refine Fin.ext ?_
    match a with
    | ⟨0, _⟩ => show (q.val * 147456 + n.val) / 4718592 = q.val / 32; omega
    | ⟨1, _⟩ => show (q.val * 147456 + n.val) / 147456 % 32 = q.val % 32; omega
    | ⟨2, _⟩ => show (q.val * 147456 + n.val) / 384 % 384 = n.val / 384; omega
    | ⟨3, _⟩ => show (q.val * 147456 + n.val) % 384 = n.val % 384; omega
  rw [hi, stack_at, padded_at x0 syn]
  unfold planeAt planeChan planeRow planeCol
  dsimp only
  rw [if_pos q.isLt, if_pos q.isLt, if_pos q.isLt, if_pos (show q.val % 32 < 96 by omega), if_pos (show q.val % 32 < 96 by omega),
    Nat.mod_mod]

theorem planeRow_mid (q : ℕ) (h : 96 ≤ q) : planeRow q = 4 := if_neg (by omega)

theorem planeCol_mid (q : ℕ) (h : 96 ≤ q) : planeCol q = 4 := if_neg (by omega)

/-- The padded source four rows down and four columns in is the source. -/
theorem padded_mid (img : FVec Ideal S1x3x384x384 .f32) (syn : FVec Ideal S1x6x384x384 .f32) (a : ℕ) (Y X : Fin 384) :
    paddedAt img syn a (4 + Y.val) (4 + X.val) = sourceAt img syn a Y X := by
  unfold paddedAt
  rw [dif_pos (by omega)]
  congr 1 <;> exact Fin.ext (by dsimp only; omega)

/-- Plane `q` from 96 on holds channel `planeChan q` of the source at the pixel itself. -/
theorem plane_mid (img : FVec Ideal S1x3x384x384 .f32) (syn : FVec Ideal S1x6x384x384 .f32) (n : Fin 147456) (q : Fin 112)
    (h : 96 ≤ q.val) : planeAt img syn n q
      = sourceAt img syn (planeChan q) (⟨n.val / 384, by omega⟩ : Fin 384) (⟨n.val % 384, by omega⟩ : Fin 384) := by
  unfold planeAt
  rw [planeRow_mid q h, planeCol_mid q h]
  exact padded_mid img syn _ (⟨n.val / 384, by omega⟩ : Fin 384) (⟨n.val % 384, by omega⟩ : Fin 384)

/-- Plane 105 is the ones. -/
theorem plane_one (img : FVec Ideal S1x3x384x384 .f32) (syn : FVec Ideal S1x6x384x384 .f32) (n : Fin 147456) :
    planeAt img syn n 105 = 1 := by
  rw [plane_mid img syn n 105 (by decide)]
  rfl

/-- The synthesis values of pixel `n`. -/
theorem synth_at (x0 : FVec Ideal S1x3x384x384 .f32) (syn : FVec Ideal S1x6x384x384 .f32) (n : Fin 147456) (q : Fin 6) :
    val_main_v73 (F := Ideal) syn (ix2 n q) = planeAt x0 syn n ⟨96 + q.val, by omega⟩ := by
  rw [val_main_v73_apply, val_main_v72_apply, val_main_v71_apply, plane_mid _ _ _ _ (Nat.le_add_right 96 _),
    show planeChan (96 + q.val) = 3 + q.val by unfold planeChan; rw [if_neg (by omega), if_pos (by omega)]; omega]
  unfold sourceAt
  rw [dif_neg (by omega), dif_pos (by omega)]
  refine congrArg _ (funext fun a => Fin.ext ?_)
  match a with
  | ⟨0, _⟩ => rfl
  | ⟨1, _⟩ =>
    show (((q.val * 147456 + n.val) / 147456 * 384 + (q.val * 147456 + n.val) / 384 % 384) * 384 + (q.val * 147456 + n.val) % 384) / 147456 % 6
      = 3 + q.val - 3
    omega
  | ⟨2, _⟩ =>
    show (((q.val * 147456 + n.val) / 147456 * 384 + (q.val * 147456 + n.val) / 384 % 384) * 384 + (q.val * 147456 + n.val) % 384) / 384 % 384
      = n.val / 384
    omega
  | ⟨3, _⟩ =>
    show (((q.val * 147456 + n.val) / 147456 * 384 + (q.val * 147456 + n.val) / 384 % 384) * 384 + (q.val * 147456 + n.val) % 384) % 384
      = n.val % 384
    omega

/-- The image values of pixel `n`. -/
theorem pixel_at (x0 : FVec Ideal S1x3x384x384 .f32) (syn : FVec Ideal S1x6x384x384 .f32) (n : Fin 147456) (q : Fin 3) :
    val_main_v76 (F := Ideal) x0 (ix2 n q) = planeAt x0 syn n ⟨102 + q.val, by omega⟩ := by
  rw [val_main_v76_apply, val_main_v75_apply, val_main_v74_apply, plane_mid _ _ _ _ (by show 96 ≤ 102 + q.val; omega),
    show planeChan (102 + q.val) = q.val by
      unfold planeChan; rw [if_neg (by omega), if_neg (by omega), if_pos (by omega)]; omega]
  unfold sourceAt
  rw [dif_pos q.isLt]
  refine congrArg _ (funext fun a => Fin.ext ?_)
  match a with
  | ⟨0, _⟩ => rfl
  | ⟨1, _⟩ =>
    show (((q.val * 147456 + n.val) / 147456 * 384 + (q.val * 147456 + n.val) / 384 % 384) * 384 + (q.val * 147456 + n.val) % 384) / 147456 % 3
      = q.val
    omega
  | ⟨2, _⟩ =>
    show (((q.val * 147456 + n.val) / 147456 * 384 + (q.val * 147456 + n.val) / 384 % 384) * 384 + (q.val * 147456 + n.val) % 384) / 384 % 384
      = n.val / 384
    omega
  | ⟨3, _⟩ =>
    show (((q.val * 147456 + n.val) / 147456 * 384 + (q.val * 147456 + n.val) / 384 % 384) * 384 + (q.val * 147456 + n.val) % 384) % 384
      = n.val % 384
    omega

end Cert.Proof

end
-- ==== Proof.Finite.lean ====
/- What the precondition says: every input it names is a real number, and so every plane is. -/
module

public import proofs.«01_k».proof.Pre_finite_inputs
public import proofs.«01_k».proof.Proof.Dense
public import proofs.«01_k».proof.Proof.Context
public import Idealize.ShloMosaic.Lib.ReduceAll
public import Idealize.ShloMosaic.Lib.Affine

@[expose] public section

set_option maxRecDepth 16384

noncomputable section

namespace Cert.Proof

open Idealize.ShloMosaic Idealize.ShloMosaic.Tactic

/-- The shape relations the precondition's operations take. -/
theorem preFacts : Cert.Pre_finite_inputs.Facts := by
  constructor <;> decide

/-- A value whose absolute value is below infinity is real. -/
theorem isReal_of_lt (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : BitVec.ofBool (decide (max (x : EReal) (-(x : EReal)) < Ideal.ofBits .f32 0x7F800000#32)) = 1#1 := h
  rw [htop] at h'
  have hlt : max (x : EReal) (-(x : EReal)) < ⊤ := by
    by_contra hn
    rw [decide_eq_false hn] at h'
    exact absurd h' (by decide)
  have h1 : (x : EReal) ≠ ⊤ := fun e => by rw [e] at hlt; simp at hlt
  have h2 : (x : EReal) ≠ ⊥ := fun e => by rw [e] at hlt; simp at hlt
  exact ⟨(x : EReal).toReal, (EReal.coe_toReal h1 h2).symm⟩

open Cert.Pre_finite_inputs in
/-- An array that passes the test is real throughout. -/
theorem real_of_test {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) hr hu j = 1#1) (i : s.Idx) : IsReal (x i) := by
  haveI : Subsingleton S_.Idx := ⟨fun a b => funext fun q => q.elim0⟩
  exact isReal_of_lt (x i) (Host.reduce_andi_all _ _ hr hu j e i)

/-- The part of a channel's weights the precondition names is real. -/
structure RealChannel {d : ℕ} (w0 : FVec Ideal ⟨3, ![16, d, 64]⟩ .f32) (b0 : FVec Ideal ⟨2, ![16, 64]⟩ .f32)
    (wh : FVec Ideal ⟨4, ![16, 2, 64, 64]⟩ .f32) (bh : FVec Ideal ⟨3, ![16, 2, 64]⟩ .f32) : Prop where
  first : ∀ i, IsReal (w0 i)
  bias : ∀ i, IsReal (b0 i)
  hidden : ∀ e i j, IsReal (wh (ix4 e 0 i j))
  hiddenBias : ∀ e j, IsReal (bh (ix3 e 0 j))

open Cert.Pre_finite_inputs in
/-- The slice of the first hidden weights. -/
theorem hidden_slice (wh : FVec Ideal S16x2x64x64 .f32) (hs : S16x2x64x64.Slices ![0, 0, 0, 0] S16x1x64x64)
    (hc : S16x1x64x64.ShapeCasts S16x64x64) (e : Fin 16) (i j : Fin 64) :
    shapeCast S16x64x64 (extractStridedSlice S16x1x64x64 ![0, 0, 0, 0] wh hs) hc (ix3 e i j) = wh (ix4 e 0 i j) := by
  pointwise

open Cert.Pre_finite_inputs in
/-- The slice of the first hidden biases. -/
theorem hiddenBias_slice (bh : FVec Ideal S16x2x64 .f32) (hs : S16x2x64.Slices ![0, 0, 0] S16x1x64)
    (hc : S16x1x64.ShapeCasts S16x64) (e : Fin 16) (j : Fin 64) :
    shapeCast S16x64 (extractStridedSlice S16x1x64 ![0, 0, 0] bh hs) hc (ix2 e j) = bh (ix3 e 0 j) := by
  pointwise

open Cert.Pre_finite_inputs in
/-- The four tests of a channel. -/
theorem RealChannel.of_tests {d : ℕ} (w0 : FVec Ideal ⟨3, ![16, d, 64]⟩ .f32) (b0 : FVec Ideal S16x64 .f32)
    (wh : FVec Ideal S16x2x64x64 .f32) (bh : FVec Ideal S16x2x64 .f32)
    {hs : S16x2x64x64.Slices ![0, 0, 0, 0] S16x1x64x64} {hc : S16x1x64x64.ShapeCasts S16x64x64}
    {hs' : S16x2x64.Slices ![0, 0, 0] S16x1x64} {hc' : S16x1x64.ShapeCasts S16x64}
    (h0 : ∀ i, IsReal (w0 i)) (h1 : ∀ i, IsReal (b0 i))
    (h2 : ∀ i, IsReal (shapeCast S16x64x64 (extractStridedSlice S16x1x64x64 ![0, 0, 0, 0] wh hs) hc i))
    (h3 : ∀ i, IsReal (shapeCast S16x64 (extractStridedSlice S16x1x64 ![0, 0, 0] bh hs') hc' i)) : RealChannel w0 b0 wh bh where
  first := h0
  bias := h1
  hidden e i j := hidden_slice wh hs hc e i j ▸ h2 (ix3 e i j)
  hiddenBias e j := hiddenBias_slice bh hs' hc' e j ▸ h3 (ix2 e j)

open Cert.Pre_finite_inputs in
/-- What the precondition says of the arguments. -/
theorem inputs_real [Cert.Pre_finite_inputs.Facts] (a0 : FVec Ideal S1x3x384x384 .f32) (a1 : FVec Ideal S1x6x384x384 .f32)
    (a2 : FVec Ideal S16x102x64 .f32) (a3 : FVec Ideal S16x64 .f32) (a4 : FVec Ideal S16x2x64x64 .f32) (a5 : FVec Ideal S16x2x64 .f32)
    (a6 : FVec Ideal S16x64x4 .f32) (a7 : FVec Ideal S16x4 .f32)
    (a8 : FVec Ideal S16x103x64 .f32) (a9 : FVec Ideal S16x64 .f32) (a10 : FVec Ideal S16x2x64x64 .f32) (a11 : FVec Ideal S16x2x64 .f32)
    (a12 : FVec Ideal S16x64x4 .f32) (a13 : FVec Ideal S16x4 .f32)
    (a14 : FVec Ideal S16x104x64 .f32) (a15 : FVec Ideal S16x64 .f32) (a16 : FVec Ideal S16x2x64x64 .f32) (a17 : FVec Ideal S16x2x64 .f32)
    (a18 : FVec Ideal S16x64x4 .f32) (a19 : FVec Ideal S16x4 .f32)
    (h : Cert.Pre_finite_inputs.fn (F := Ideal) a0 a1 a2 a3 a4 a5 a6 a7 a8 a9 a10 a11 a12 a13 a14 a15 a16 a17 a18 a19 = fun _ => 1#1) :
    (∀ i, IsReal (a0 i)) ∧ (∀ i, IsReal (a1 i)) ∧ RealChannel a2 a3 a4 a5 ∧ RealChannel a8 a9 a10 a11 ∧ RealChannel a14 a15 a16 a17 := by
  have e := congrFun h (fun q => q.elim0)
  simp only [Cert.Pre_finite_inputs.fn, fn_part1, fn_part2, fn_part3, fn_part4] at e
  obtain ⟨e, h17⟩ := IntOp.andi_eq_one.1 e
  obtain ⟨e, h16⟩ := IntOp.andi_eq_one.1 e
  obtain ⟨e, h15⟩ := IntOp.andi_eq_one.1 e
  obtain ⟨e, h14⟩ := IntOp.andi_eq_one.1 e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨real_of_test _ _ _ _ _ h0, real_of_test _ _ _ _ _ h1,
    RealChannel.of_tests _ _ _ _ (real_of_test _ _ _ _ _ h2) (real_of_test _ _ _ _ _ h3) (real_of_test _ _ _ _ _ h4) (real_of_test _ _ _ _ _ h5),
    RealChannel.of_tests _ _ _ _ (real_of_test _ _ _ _ _ h8) (real_of_test _ _ _ _ _ h9) (real_of_test _ _ _ _ _ h10) (real_of_test _ _ _ _ _ h11),
    RealChannel.of_tests _ _ _ _ (real_of_test _ _ _ _ _ h14) (real_of_test _ _ _ _ _ h15) (real_of_test _ _ _ _ _ h16) (real_of_test _ _ _ _ _ h17)⟩

/-- Every value of the padded source is real when the image and the synthesis values are. -/
theorem real_planes (img : FVec Ideal ⟨4, ![1, 3, 384, 384]⟩ .f32) (syn : FVec Ideal ⟨4, ![1, 6, 384, 384]⟩ .f32)
    (h0 : ∀ i, IsReal (img i)) (h1 : ∀ i, IsReal (syn i)) (n : Fin 147456) (q : Fin 112) : IsReal (planeAt img syn n q) := by
  unfold planeAt paddedAt sourceAt
  split_ifs
  · exact h0 _
  · exact h1 _
  · exact IsReal.one
  · exact IsReal.zero

/-- One channel's packed network is the plain one. -/
theorem net_eq {d : ℕ} (hd : d ≤ 105) (img : FVec Ideal ⟨4, ![1, 3, 384, 384]⟩ .f32) (syn : FVec Ideal ⟨4, ![1, 6, 384, 384]⟩ .f32)
    (w0 : FVec Ideal ⟨3, ![16, d, 64]⟩ .f32) (b0 : FVec Ideal ⟨2, ![16, 64]⟩ .f32)
    (wh : FVec Ideal ⟨4, ![16, 2, 64, 64]⟩ .f32) (bh : FVec Ideal ⟨3, ![16, 2, 64]⟩ .f32)
    (wo : FVec Ideal ⟨3, ![16, 64, 4]⟩ .f32) (bo : FVec Ideal ⟨2, ![16, 4]⟩ .f32) (h0 : ∀ i, IsReal (img i)) (h1 : ∀ i, IsReal (syn i))
    (hc : RealChannel w0 b0 wh bh) (n : Fin 147456) (k : Fin 4) :
    netAt img syn w0 b0 wh bh wo bo n k
      = plainNet (fun q : Fin d => planeAt img syn n ⟨q.val, by omega⟩) w0 b0 wh bh wo bo (expertOf n) k :=
  packed_eq hd (planeAt img syn n) (plane_one img syn n) w0 b0 wh bh wo bo (expertOf n) k (real_planes img syn h0 h1 n)
    (fun _ _ => hc.first _) (fun _ => hc.bias _) (hc.hidden _) (hc.hiddenBias _)

end Cert.Proof

end
-- ==== Proof.Rows.lean ====
/- Taking whole rows of an array by an array of row numbers, read at an index. -/
module

public import Idealize.ShloMosaic.Lib.Pipeline.ValueKit

@[expose] public section

noncomputable section

namespace Cert.Proof

open Idealize.ShloMosaic

variable {α : Type} {N M A B C w : ℕ}

/-- Rows of a matrix. -/
abbrev rows2 (N M A : ℕ) (wf : GatherDims.WF ⟨2, ![N, A]⟩ ⟨2, ![M, 1]⟩ ⟨2, ![M, A]⟩ [1] [0] [] [0] [] 1 ![1, A]) :
    GatherDims ⟨2, ![N, A]⟩ ⟨2, ![M, 1]⟩ ⟨2, ![M, A]⟩ where
  offsetDims := [1]
  collapsedSliceDims := [0]
  operandBatchingDims := []
  startIndicesBatchingDims := []
  startIndexMap := [0]
  indexVectorDim := 1
  sliceSizes := ![1, A]
  wf := wf

/-- Rows of a rank-three array. -/
abbrev rows3 (N M A B : ℕ)
    (wf : GatherDims.WF ⟨3, ![N, A, B]⟩ ⟨2, ![M, 1]⟩ ⟨3, ![M, A, B]⟩ [1, 2] [0] [] [0] [] 1 ![1, A, B]) :
    GatherDims ⟨3, ![N, A, B]⟩ ⟨2, ![M, 1]⟩ ⟨3, ![M, A, B]⟩ where
  offsetDims := [1, 2]
  collapsedSliceDims := [0]
  operandBatchingDims := []
  startIndicesBatchingDims := []
  startIndexMap := [0]
  indexVectorDim := 1
  sliceSizes := ![1, A, B]
  wf := wf

/-- Rows of a rank-four array. -/
abbrev rows4 (N M A B C : ℕ)
    (wf : GatherDims.WF ⟨4, ![N, A, B, C]⟩ ⟨2, ![M, 1]⟩ ⟨4, ![M, A, B, C]⟩ [1, 2, 3] [0] [] [0] [] 1 ![1, A, B, C]) :
    GatherDims ⟨4, ![N, A, B, C]⟩ ⟨2, ![M, 1]⟩ ⟨4, ![M, A, B, C]⟩ where
  offsetDims := [1, 2, 3]
  collapsedSliceDims := [0]
  operandBatchingDims := []
  startIndicesBatchingDims := []
  startIndexMap := [0]
  indexVectorDim := 1
  sliceSizes := ![1, A, B, C]
  wf := wf

/-- Row `e` of a matrix, when the row number read for `n` is `e`. -/
theorem rows2_apply (wf) (x : (⟨2, ![N, A]⟩ : Shape).Idx → α) (idx : IVec ⟨2, ![M, 1]⟩ w) (n : Fin M) (a : Fin A) (e : Fin N)
    (he : (idx (ix2 n (0 : Fin 1))).toInt.toNat = e.val) : Host.gather (rows2 N M A wf) x idx (ix2 n a) = x (ix2 e a) := by
  unfold Host.gather
  congr 1
  funext b
  refine Fin.ext ?_
  show (rows2 N M A wf).start (ix2 n a) idx b + (rows2 N M A wf).batchCoord (ix2 n a) b + (rows2 N M A wf).offCoord (ix2 n a) b = _
  rw [GatherDims.batchCoord_eq_zero _ _ _ List.not_mem_nil]
  match b with
  | ⟨0, _⟩ =>
    rw [GatherDims.offCoord_eq_zero _ _ _ (fun h => ((GatherDims.mem_sKept _ _).mp h).1 (List.mem_singleton.mpr rfl))]
    unfold GatherDims.start
    rw [dif_pos (show (⟨0, _⟩ : Fin 2) ∈ (rows2 N M A wf).startIndexMap from List.mem_singleton.mpr rfl)]
    have hsi : (rows2 N M A wf).siIdx (ix2 n a) ⟨List.idxOf (⟨0, by decide⟩ : Fin 2) (rows2 N M A wf).startIndexMap,
        List.idxOf_lt_length_iff.2 (List.mem_singleton.mpr rfl)⟩ = ix2 n (0 : Fin 1) := by
      funext b'; refine Fin.ext ?_
      match b' with
      | ⟨0, _⟩ => rfl
      | ⟨1, _⟩ => rfl
    rw [hsi, he]
    show min e.val (N - 1) + 0 + 0 = e.val
    have := e.isLt
    omega
  | ⟨1, _⟩ =>
    unfold GatherDims.start
    rw [dif_neg (by simp)]
    show 0 + 0 + a.val = a.val
    omega

/-- Row `e` of a rank-three array, when the row number read for `n` is `e`. -/
theorem rows3_apply (wf) (x : (⟨3, ![N, A, B]⟩ : Shape).Idx → α) (idx : IVec ⟨2, ![M, 1]⟩ w) (n : Fin M) (a : Fin A) (b : Fin B)
    (e : Fin N) (he : (idx (ix2 n (0 : Fin 1))).toInt.toNat = e.val) :
    Host.gather (rows3 N M A B wf) x idx (ix3 n a b) = x (ix3 e a b) := by
  unfold Host.gather
  congr 1
  funext i
  refine Fin.ext ?_
  show (rows3 N M A B wf).start (ix3 n a b) idx i + (rows3 N M A B wf).batchCoord (ix3 n a b) i
    + (rows3 N M A B wf).offCoord (ix3 n a b) i = _
  rw [GatherDims.batchCoord_eq_zero _ _ _ List.not_mem_nil]
  match i with
  | ⟨0, _⟩ =>
    rw [GatherDims.offCoord_eq_zero _ _ _ (fun h => ((GatherDims.mem_sKept _ _).mp h).1 (List.mem_singleton.mpr rfl))]
    unfold GatherDims.start
    rw [dif_pos (show (⟨0, _⟩ : Fin 3) ∈ (rows3 N M A B wf).startIndexMap from List.mem_singleton.mpr rfl)]
    have hsi : (rows3 N M A B wf).siIdx (ix3 n a b) ⟨List.idxOf (⟨0, by decide⟩ : Fin 3) (rows3 N M A B wf).startIndexMap,
        List.idxOf_lt_length_iff.2 (List.mem_singleton.mpr rfl)⟩ = ix2 n (0 : Fin 1) := by
      funext b'; refine Fin.ext ?_
      match b' with
      | ⟨0, _⟩ => rfl
      | ⟨1, _⟩ => rfl
    rw [hsi, he]
    show min e.val (N - 1) + 0 + 0 = e.val
    have := e.isLt
    omega
  | ⟨1, _⟩ =>
    unfold GatherDims.start
    rw [dif_neg (by simp)]
    show 0 + 0 + a.val = a.val
    omega
  | ⟨2, _⟩ =>
    unfold GatherDims.start
    rw [dif_neg (by simp)]
    show 0 + 0 + b.val = b.val
    omega

/-- Row `e` of a rank-four array, when the row number read for `n` is `e`. -/
theorem rows4_apply (wf) (x : (⟨4, ![N, A, B, C]⟩ : Shape).Idx → α) (idx : IVec ⟨2, ![M, 1]⟩ w) (n : Fin M) (a : Fin A) (b : Fin B)
    (k : Fin C) (e : Fin N) (he : (idx (ix2 n (0 : Fin 1))).toInt.toNat = e.val) :
    Host.gather (rows4 N M A B C wf) x idx (ix4 n a b k) = x (ix4 e a b k) := by
  unfold Host.gather
  congr 1
  funext i
  refine Fin.ext ?_
  show (rows4 N M A B C wf).start (ix4 n a b k) idx i + (rows4 N M A B C wf).batchCoord (ix4 n a b k) i
    + (rows4 N M A B C wf).offCoord (ix4 n a b k) i = _
  rw [GatherDims.batchCoord_eq_zero _ _ _ List.not_mem_nil]
  match i with
  | ⟨0, _⟩ =>
    rw [GatherDims.offCoord_eq_zero _ _ _ (fun h => ((GatherDims.mem_sKept _ _).mp h).1 (List.mem_singleton.mpr rfl))]
    unfold GatherDims.start
    rw [dif_pos (show (⟨0, _⟩ : Fin 4) ∈ (rows4 N M A B C wf).startIndexMap from List.mem_singleton.mpr rfl)]
    have hsi : (rows4 N M A B C wf).siIdx (ix4 n a b k) ⟨List.idxOf (⟨0, by decide⟩ : Fin 4) (rows4 N M A B C wf).startIndexMap,
        List.idxOf_lt_length_iff.2 (List.mem_singleton.mpr rfl)⟩ = ix2 n (0 : Fin 1) := by
      funext b'; refine Fin.ext ?_
      match b' with
      | ⟨0, _⟩ => rfl
      | ⟨1, _⟩ => rfl
    rw [hsi, he]
    show min e.val (N - 1) + 0 + 0 = e.val
    have := e.isLt
    omega
  | ⟨1, _⟩ =>
    unfold GatherDims.start
    rw [dif_neg (by simp)]
    show 0 + 0 + a.val = a.val
    omega
  | ⟨2, _⟩ =>
    unfold GatherDims.start
    rw [dif_neg (by simp)]
    show 0 + 0 + b.val = b.val
    omega
  | ⟨3, _⟩ =>
    unfold GatherDims.start
    rw [dif_neg (by simp)]
    show 0 + 0 + k.val = k.val
    omega

end Cert.Proof

end
-- ==== Proof.Experts.lean ====
/- The reference's routing: the expert of a pixel, and the weights that the pixel takes from it. -/
module

public import proofs.«01_k».proof.Proof.Context
public import proofs.«01_k».proof.Proof.Rows

@[expose] public section

set_option maxRecDepth 16384

noncomputable section

namespace Cert.Proof

open Cert.ReferenceIdeal Cert.ReferenceIdeal.Gen Cert.ReferenceIdeal.Read
open Idealize.ShloMosaic Idealize.ShloMosaic.TcCoe Idealize.ShloMosaic.Tactic Idealize.SL.Sem Idealize.ShloMosaic.StableHlo

/-- A row or column number divided by the cell's side. -/
theorem cell_word (a : Fin 384) : IntOp.divsi .host (BitVec.ofNat 32 a.val) 96#32 = BitVec.ofNat 32 (a.val / 96) := by
  revert a; decide +kernel

/-- The cell's number from its row and its column. -/
theorem expert_word (a b : Fin 4) : IntOp.addi (IntOp.muli (BitVec.ofNat 32 a.val) 4#32) (BitVec.ofNat 32 b.val)
    = BitVec.ofNat 32 (a.val * 4 + b.val) := by
  revert a b; decide

/-- An expert's number is not negative, so nothing is added to it. -/
theorem wrapped_word (e : Fin 16) :
    (Scalar.select (IntOp.cmpi .slt (BitVec.ofNat 32 e.val) 0#32) (IntOp.addi (BitVec.ofNat 32 e.val) 16#32)
      (BitVec.ofNat 32 e.val)).toInt.toNat = e.val := by
  revert e; decide

/-- The expert's number at pixel `n`. -/
theorem eid_at (n : Fin 147456) : val_main_v86 (F := Ideal) (ix1 n) = BitVec.ofNat 32 (expertOf n).val := by
  rw [val_main_v86_apply, val_main_v85_apply, val_main_v82_apply, val_main_v84_apply, val_main_v80_apply, val_main_v81_apply,
    val_main_v83_apply, val_main_v79_apply, val_main_v77_apply, val_main_v78_apply, val_main_c_apply, val_main_c_0_apply,
    val_main_c_1_apply]
  show IntOp.addi (IntOp.muli (IntOp.divsi .host (BitVec.ofNat 32 (n.val / 384)) 96#32) 4#32)
    (IntOp.divsi .host (BitVec.ofNat 32 (n.val % 384)) 96#32) = _
  rw [cell_word ⟨n.val / 384, by omega⟩, cell_word ⟨n.val % 384, by omega⟩]
  exact expert_word ⟨n.val / 384 / 96, by omega⟩ ⟨n.val % 384 / 96, by omega⟩

/-- The row number that pixel `n` takes. -/
theorem row_at (n : Fin 147456) : (val_main_v93 (F := Ideal) (ix2 n (0 : Fin 1))).toInt.toNat = (expertOf n).val := by
  rw [val_main_v93_apply, val_main_v92_apply, val_main_v91_apply, val_main_v89_apply, val_main_v90_apply, val_main_v88_apply,
    val_main_c_2_apply, val_main_c_3_apply]
  have h : idx_main_v93 (ix2 n (0 : Fin 1)) = ix1 n := funext fun a => match a with | ⟨0, _⟩ => rfl
  rw [h, eid_at]
  exact wrapped_word (expertOf n)

/-- Pixel `n`'s first weights, channel 0. -/
theorem first0_at (w : FVec Ideal S16x102x64 .f32) (n : Fin 147456) (q : Fin 102) (j : Fin 64) :
    val_main_v94 (F := Ideal) w (ix3 n q j) = w (ix3 (expertOf n) q j) :=
  rows3_apply _ w (val_main_v93 (F := Ideal)) n q j (expertOf n) (row_at n)

/-- Pixel `n`'s first weights, channel 1. -/
theorem first1_at (w : FVec Ideal S16x103x64 .f32) (n : Fin 147456) (q : Fin 103) (j : Fin 64) :
    val_main_v162 (F := Ideal) w (ix3 n q j) = w (ix3 (expertOf n) q j) :=
  rows3_apply _ w (val_main_v93 (F := Ideal)) n q j (expertOf n) (row_at n)

/-- Pixel `n`'s first weights, channel 2. -/
theorem first2_at (w : FVec Ideal S16x104x64 .f32) (n : Fin 147456) (q : Fin 104) (j : Fin 64) :
    val_main_v230 (F := Ideal) w (ix3 n q j) = w (ix3 (expertOf n) q j) :=
  rows3_apply _ w (val_main_v93 (F := Ideal)) n q j (expertOf n) (row_at n)

/-- Pixel `n`'s first bias. -/
theorem bias_at (b : FVec Ideal S16x64 .f32) (n : Fin 147456) (j : Fin 64) :
    val_main_v101 (F := Ideal) b (ix2 n j) = b (ix2 (expertOf n) j) :=
  rows2_apply _ b (val_main_v93 (F := Ideal)) n j (expertOf n) (row_at n)

/-- Pixel `n`'s hidden weights. -/
theorem hidden_at (w : FVec Ideal S16x2x64x64 .f32) (n : Fin 147456) (l : Fin 2) (i j : Fin 64) :
    val_main_v108 (F := Ideal) w (ix4 n l i j) = w (ix4 (expertOf n) l i j) :=
  rows4_apply _ w (val_main_v93 (F := Ideal)) n l i j (expertOf n) (row_at n)

/-- Pixel `n`'s hidden biases. -/
theorem hiddenBias_at (b : FVec Ideal S16x2x64 .f32) (n : Fin 147456) (l : Fin 2) (j : Fin 64) :
    val_main_v115 (F := Ideal) b (ix3 n l j) = b (ix3 (expertOf n) l j) :=
  rows3_apply _ b (val_main_v93 (F := Ideal)) n l j (expertOf n) (row_at n)

/-- Pixel `n`'s last weights. -/
theorem last_at (w : FVec Ideal S16x64x4 .f32) (n : Fin 147456) (i : Fin 64) (k : Fin 4) :
    val_main_v122 (F := Ideal) w (ix3 n i k) = w (ix3 (expertOf n) i k) :=
  rows3_apply _ w (val_main_v93 (F := Ideal)) n i k (expertOf n) (row_at n)

/-- Pixel `n`'s last bias. -/
theorem lastBias_at (b : FVec Ideal S16x4 .f32) (n : Fin 147456) (k : Fin 4) :
    val_main_v129 (F := Ideal) b (ix2 n k) = b (ix2 (expertOf n) k) :=
  rows2_apply _ b (val_main_v93 (F := Ideal)) n k (expertOf n) (row_at n)

/-- Pixel `n`'s weights of the first hidden layer. -/
theorem hidden0_at (w : FVec Ideal S16x2x64x64 .f32) (n : Fin 147456) (i j : Fin 64) :
    val_main_v135 (F := Ideal) w (ix3 n i j) = w (ix4 (expertOf n) 0 i j) := by
  rw [val_main_v135_apply, val_main_v134_apply, ← hidden_at w n 0 i j]
  refine congrArg _ (funext fun a => Fin.ext ?_)
  match a with
  | ⟨0, _⟩ => show ((n.val * 64 + i.val) * 64 + j.val) / 4096 = n.val; omega
  | ⟨1, _⟩ => rfl
  | ⟨2, _⟩ => show ((n.val * 64 + i.val) * 64 + j.val) / 64 % 64 = i.val; omega
  | ⟨3, _⟩ => show ((n.val * 64 + i.val) * 64 + j.val) % 64 = j.val; omega

/-- Pixel `n`'s weights of the second hidden layer. -/
theorem hidden1_at (w : FVec Ideal S16x2x64x64 .f32) (n : Fin 147456) (i j : Fin 64) :
    val_main_v144 (F := Ideal) w (ix3 n i j) = w (ix4 (expertOf n) 1 i j) := by
  rw [val_main_v144_apply, val_main_v143_apply, ← hidden_at w n 1 i j]
  refine congrArg _ (funext fun a => Fin.ext ?_)
  match a with
  | ⟨0, _⟩ => show ((n.val * 64 + i.val) * 64 + j.val) / 4096 = n.val; omega
  | ⟨1, _⟩ => rfl
  | ⟨2, _⟩ => show ((n.val * 64 + i.val) * 64 + j.val) / 64 % 64 = i.val; omega
  | ⟨3, _⟩ => show ((n.val * 64 + i.val) * 64 + j.val) % 64 = j.val; omega

/-- Pixel `n`'s bias of the first hidden layer. -/
theorem hiddenBias0_at (b : FVec Ideal S16x2x64 .f32) (n : Fin 147456) (j : Fin 64) :
    val_main_v139 (F := Ideal) b (ix2 n j) = b (ix3 (expertOf n) 0 j) := by
  rw [val_main_v139_apply, val_main_v138_apply, ← hiddenBias_at b n 0 j]
  refine congrArg _ (funext fun a => Fin.ext ?_)
  match a with
  | ⟨0, _⟩ => show (n.val * 64 + j.val) / 64 = n.val; omega
  | ⟨1, _⟩ => rfl
  | ⟨2, _⟩ => show (n.val * 64 + j.val) % 64 = j.val; omega

/-- Pixel `n`'s bias of the second hidden layer. -/
theorem hiddenBias1_at (b : FVec Ideal S16x2x64 .f32) (n : Fin 147456) (j : Fin 64) :
    val_main_v148 (F := Ideal) b (ix2 n j) = b (ix3 (expertOf n) 1 j) := by
  rw [val_main_v148_apply, val_main_v147_apply, ← hiddenBias_at b n 1 j]
  refine congrArg _ (funext fun a => Fin.ext ?_)
  match a with
  | ⟨0, _⟩ => show (n.val * 64 + j.val) / 64 = n.val; omega
  | ⟨1, _⟩ => rfl
  | ⟨2, _⟩ => show (n.val * 64 + j.val) % 64 = j.val; omega

end Cert.Proof

end
-- ==== Proof.ReferenceNet.lean ====
/- The reference's network at a pixel: its input row is the pixel's planes, and its layers are the plain ones. -/
module

public import proofs.«01_k».proof.Proof.Experts
public import proofs.«01_k».proof.Proof.Dense

@[expose] public section

set_option maxRecDepth 16384

noncomputable section

namespace Cert.Proof

open Cert.ReferenceIdeal Cert.ReferenceIdeal.Gen Cert.ReferenceIdeal.Read
open Idealize.ShloMosaic Idealize.ShloMosaic.TcCoe Idealize.ShloMosaic.Tactic Idealize.SL.Sem Idealize.ShloMosaic.StableHlo

/-- Channel 0's input row: the context, the synthesis values. -/
theorem input0_at (x0 : FVec Ideal S1x3x384x384 .f32) (x1 : FVec Ideal S1x6x384x384 .f32) (n : Fin 147456) (q : Fin 102) :
    val_main_v87 (F := Ideal) x0 x1 (ix2 n q) = planeAt x0 x1 n ⟨q.val, by omega⟩ := by
  unfold val_main_v87
  pointwise
  by_cases h : q.val < 96
  · rw [dif_pos h]
    exact context_at x0 x1 n ⟨q.val, h⟩
  · rw [dif_neg h]
    refine (synth_at x0 x1 n ⟨q.val - 96, by omega⟩).trans ?_
    exact congrArg _ (Fin.ext (by dsimp only; omega))

/-- Channel 1's input row: the context, the synthesis values and the first image channel. -/
theorem input1_at (x0 : FVec Ideal S1x3x384x384 .f32) (x1 : FVec Ideal S1x6x384x384 .f32) (n : Fin 147456) (q : Fin 103) :
    val_main_v155 (F := Ideal) x0 x1 (ix2 n q) = planeAt x0 x1 n ⟨q.val, by omega⟩ := by
  unfold val_main_v155
  pointwise
  by_cases h : q.val < 96
  · rw [dif_pos h]
    exact context_at x0 x1 n ⟨q.val, h⟩
  · rw [dif_neg h]
    by_cases h' : q.val - 96 < 6
    · rw [dif_pos h']
      refine (synth_at x0 x1 n ⟨q.val - 96, h'⟩).trans ?_
      exact congrArg _ (Fin.ext (by dsimp only; omega))
    · rw [dif_neg h', val_main_v154_apply]
      refine Eq.trans (congrArg _ (funext fun a => Fin.ext ?_)) ((pixel_at x0 x1 n ⟨q.val - 102, by omega⟩).trans ?_)
      · match a with
        | ⟨0, _⟩ => rfl
        | ⟨1, _⟩ => exact (by show q.val - 96 - 6 = q.val - 102; omega)
      · exact congrArg _ (Fin.ext (by dsimp only; omega))

/-- Channel 2's input row: the context, the synthesis values and the first two image channels. -/
theorem input2_at (x0 : FVec Ideal S1x3x384x384 .f32) (x1 : FVec Ideal S1x6x384x384 .f32) (n : Fin 147456) (q : Fin 104) :
    val_main_v223 (F := Ideal) x0 x1 (ix2 n q) = planeAt x0 x1 n ⟨q.val, by omega⟩ := by
  unfold val_main_v223
  pointwise
  by_cases h : q.val < 96
  · rw [dif_pos h]
    exact context_at x0 x1 n ⟨q.val, h⟩
  · rw [dif_neg h]
    by_cases h' : q.val - 96 < 6
    · rw [dif_pos h']
      refine (synth_at x0 x1 n ⟨q.val - 96, h'⟩).trans ?_
      exact congrArg _ (Fin.ext (by dsimp only; omega))
    · rw [dif_neg h', val_main_v222_apply]
      refine Eq.trans (congrArg _ (funext fun a => Fin.ext ?_)) ((pixel_at x0 x1 n ⟨q.val - 102, by omega⟩).trans ?_)
      · match a with
        | ⟨0, _⟩ => rfl
        | ⟨1, _⟩ => exact (by show q.val - 96 - 6 = q.val - 102; omega)
      · exact congrArg _ (Fin.ext (by dsimp only; omega))

theorem mul_congr {a a' b b' : EReal} (ha : a = a') (hb : b = b') : a * b = a' * b' := by rw [ha, hb]

theorem add_congr {a a' b b' : EReal} (ha : a = a') (hb : b = b') : FloatOps.addf (F := Ideal) (φ := .f32) a b = a' + b' := by
  rw [ha, hb]; rfl

theorem max_congr {a a' b b' : EReal} (ha : a = a') (hb : b = b') :
    FloatOps.maximumf (F := Ideal) (φ := .f32) a b = max a' b' := by
  rw [ha, hb]; rfl

/-- The word of the float zero. -/
theorem zero_word : FloatOps.ofBits (F := Ideal) .f32 0x00000000#32 = (0 : EReal) := by pointwise

/-- Channel 0's first layer. -/
theorem net0_first (x0 : FVec Ideal S1x3x384x384 .f32) (x1 : FVec Ideal S1x6x384x384 .f32) (x2 : FVec Ideal S16x102x64 .f32)
    (x3 : FVec Ideal S16x64 .f32) (n : Fin 147456) (j : Fin 64) :
    val_main_v133 (F := Ideal) x0 x1 x2 x3 (ix2 n j)
      = firstLayer (fun q : Fin 102 => planeAt x0 x1 n ⟨q.val, by omega⟩) (fun q j => x2 (ix3 (expertOf n) q j))
      (fun j => x3 (ix2 (expertOf n) j)) j := by
  rw [val_main_v133_apply, val_main_v131_apply, val_main_v130_apply, val_main_v132_apply, val_main_cst_14_apply]
  refine max_congr (add_congr (Finset.sum_congr rfl fun q _ => mul_congr ?_ ?_) (bias_at x3 n j)) zero_word
  · exact (congrArg _ (funext fun a => match a with | ⟨0, _⟩ => rfl | ⟨1, _⟩ => rfl)).trans (input0_at x0 x1 n q)
  · exact (congrArg _ (funext fun a => match a with | ⟨0, _⟩ => rfl | ⟨1, _⟩ => rfl | ⟨2, _⟩ => rfl)).trans (first0_at x2 n q j)

/-- Channel 0's second layer. -/
theorem net0_second (x0 : FVec Ideal S1x3x384x384 .f32) (x1 : FVec Ideal S1x6x384x384 .f32) (x2 : FVec Ideal S16x102x64 .f32)
    (x3 : FVec Ideal S16x64 .f32) (x4 : FVec Ideal S16x2x64x64 .f32) (x5 : FVec Ideal S16x2x64 .f32) (n : Fin 147456) (j : Fin 64) :
    val_main_v142 (F := Ideal) x0 x1 x2 x3 x4 x5 (ix2 n j)
      = hiddenLayer (firstLayer (fun q : Fin 102 => planeAt x0 x1 n ⟨q.val, by omega⟩) (fun q j => x2 (ix3 (expertOf n) q j))
      (fun j => x3 (ix2 (expertOf n) j)))
      (fun i j => x4 (ix4 (expertOf n) 0 i j)) (fun j => x5 (ix3 (expertOf n) 0 j)) j := by
  rw [val_main_v142_apply, val_main_v140_apply, val_main_v137_apply, val_main_v136_apply, val_main_v141_apply, val_main_cst_15_apply]
  refine max_congr (add_congr (add_congr (net0_first x0 x1 x2 x3 n j) (Finset.sum_congr rfl fun i _ => mul_congr ?_ ?_))
    (hiddenBias0_at x5 n j)) zero_word
  · exact (congrArg _ (funext fun a => match a with | ⟨0, _⟩ => rfl | ⟨1, _⟩ => rfl)).trans (net0_first x0 x1 x2 x3 n i)
  · exact (congrArg _ (funext fun a => match a with | ⟨0, _⟩ => rfl | ⟨1, _⟩ => rfl | ⟨2, _⟩ => rfl)).trans (hidden0_at x4 n i j)

/-- Channel 0's third layer. -/
theorem net0_third (x0 : FVec Ideal S1x3x384x384 .f32) (x1 : FVec Ideal S1x6x384x384 .f32) (x2 : FVec Ideal S16x102x64 .f32)
    (x3 : FVec Ideal S16x64 .f32) (x4 : FVec Ideal S16x2x64x64 .f32) (x5 : FVec Ideal S16x2x64 .f32) (n : Fin 147456) (j : Fin 64) :
    val_main_v151 (F := Ideal) x0 x1 x2 x3 x4 x5 (ix2 n j)
      = hiddenLayer (hiddenLayer (firstLayer (fun q : Fin 102 => planeAt x0 x1 n ⟨q.val, by omega⟩) (fun q j => x2 (ix3 (expertOf n) q j))
      (fun j => x3 (ix2 (expertOf n) j)))
      (fun i j => x4 (ix4 (expertOf n) 0 i j)) (fun j => x5 (ix3 (expertOf n) 0 j)))
      (fun i j => x4 (ix4 (expertOf n) 1 i j)) (fun j => x5 (ix3 (expertOf n) 1 j)) j := by
  rw [val_main_v151_apply, val_main_v149_apply, val_main_v146_apply, val_main_v145_apply, val_main_v150_apply, val_main_cst_16_apply]
  refine max_congr (add_congr (add_congr (net0_second x0 x1 x2 x3 x4 x5 n j) (Finset.sum_congr rfl fun i _ => mul_congr ?_ ?_))
    (hiddenBias1_at x5 n j)) zero_word
  · exact (congrArg _ (funext fun a => match a with | ⟨0, _⟩ => rfl | ⟨1, _⟩ => rfl)).trans (net0_second x0 x1 x2 x3 x4 x5 n i)
  · exact (congrArg _ (funext fun a => match a with | ⟨0, _⟩ => rfl | ⟨1, _⟩ => rfl | ⟨2, _⟩ => rfl)).trans (hidden1_at x4 n i j)

/-- Channel 0's network. -/
theorem net0_at (x0 : FVec Ideal S1x3x384x384 .f32) (x1 : FVec Ideal S1x6x384x384 .f32) (x2 : FVec Ideal S16x102x64 .f32)
    (x3 : FVec Ideal S16x64 .f32) (x4 : FVec Ideal S16x2x64x64 .f32) (x5 : FVec Ideal S16x2x64 .f32)
    (x6 : FVec Ideal S16x64x4 .f32) (x7 : FVec Ideal S16x4 .f32) (n : Fin 147456) (k : Fin 4) :
    val_main_v153 (F := Ideal) x0 x1 x2 x3 x4 x5 x6 x7 (ix2 n k)
      = plainNet (fun q : Fin 102 => planeAt x0 x1 n ⟨q.val, by omega⟩) x2 x3 x4 x5 x6 x7 (expertOf n) k := by
  rw [val_main_v153_apply, val_main_v152_apply]
  refine add_congr (Finset.sum_congr rfl fun i _ => mul_congr ?_ ?_) (lastBias_at x7 n k)
  · exact (congrArg _ (funext fun a => match a with | ⟨0, _⟩ => rfl | ⟨1, _⟩ => rfl)).trans (net0_third x0 x1 x2 x3 x4 x5 n i)
  · exact (congrArg _ (funext fun a => match a with | ⟨0, _⟩ => rfl | ⟨1, _⟩ => rfl | ⟨2, _⟩ => rfl)).trans (last_at x6 n i k)

/-- Channel 1's first layer. -/
theorem net1_first (x0 : FVec Ideal S1x3x384x384 .f32) (x1 : FVec Ideal S1x6x384x384 .f32) (x8 : FVec Ideal S16x103x64 .f32)
    (x9 : FVec Ideal S16x64 .f32) (n : Fin 147456) (j : Fin 64) :
    val_main_v201 (F := Ideal) x0 x1 x8 x9 (ix2 n j)
      = firstLayer (fun q : Fin 103 => planeAt x0 x1 n ⟨q.val, by omega⟩) (fun q j => x8 (ix3 (expertOf n) q j))
      (fun j => x9 (ix2 (expertOf n) j)) j := by
  rw [val_main_v201_apply, val_main_v199_apply, val_main_v198_apply, val_main_v200_apply, val_main_cst_29_apply]
  refine max_congr (add_congr (Finset.sum_congr rfl fun q _ => mul_congr ?_ ?_) (bias_at x9 n j)) zero_word
  · exact (congrArg _ (funext fun a => match a with | ⟨0, _⟩ => rfl | ⟨1, _⟩ => rfl)).trans (input1_at x0 x1 n q)
  · exact (congrArg _ (funext fun a => match a with | ⟨0, _⟩ => rfl | ⟨1, _⟩ => rfl | ⟨2, _⟩ => rfl)).trans (first1_at x8 n q j)

/-- Channel 1's second layer. -/
theorem net1_second (x0 : FVec Ideal S1x3x384x384 .f32) (x1 : FVec Ideal S1x6x384x384 .f32) (x8 : FVec Ideal S16x103x64 .f32)
    (x9 : FVec Ideal S16x64 .f32) (x10 : FVec Ideal S16x2x64x64 .f32) (x11 : FVec Ideal S16x2x64 .f32) (n : Fin 147456) (j : Fin 64) :
    val_main_v210 (F := Ideal) x0 x1 x8 x9 x10 x11 (ix2 n j)
      = hiddenLayer (firstLayer (fun q : Fin 103 => planeAt x0 x1 n ⟨q.val, by omega⟩) (fun q j => x8 (ix3 (expertOf n) q j))
      (fun j => x9 (ix2 (expertOf n) j)))
      (fun i j => x10 (ix4 (expertOf n) 0 i j)) (fun j => x11 (ix3 (expertOf n) 0 j)) j := by
  rw [val_main_v210_apply, val_main_v208_apply, val_main_v205_apply, val_main_v204_apply, val_main_v209_apply, val_main_cst_30_apply]
  refine max_congr (add_congr (add_congr (net1_first x0 x1 x8 x9 n j) (Finset.sum_congr rfl fun i _ => mul_congr ?_ ?_))
    (hiddenBias0_at x11 n j)) zero_word
  · exact (congrArg _ (funext fun a => match a with | ⟨0, _⟩ => rfl | ⟨1, _⟩ => rfl)).trans (net1_first x0 x1 x8 x9 n i)
  · exact (congrArg _ (funext fun a => match a with | ⟨0, _⟩ => rfl | ⟨1, _⟩ => rfl | ⟨2, _⟩ => rfl)).trans (hidden0_at x10 n i j)

/-- Channel 1's third layer. -/
theorem net1_third (x0 : FVec Ideal S1x3x384x384 .f32) (x1 : FVec Ideal S1x6x384x384 .f32) (x8 : FVec Ideal S16x103x64 .f32)
    (x9 : FVec Ideal S16x64 .f32) (x10 : FVec Ideal S16x2x64x64 .f32) (x11 : FVec Ideal S16x2x64 .f32) (n : Fin 147456) (j : Fin 64) :
    val_main_v219 (F := Ideal) x0 x1 x8 x9 x10 x11 (ix2 n j)
      = hiddenLayer (hiddenLayer (firstLayer (fun q : Fin 103 => planeAt x0 x1 n ⟨q.val, by omega⟩) (fun q j => x8 (ix3 (expertOf n) q j))
      (fun j => x9 (ix2 (expertOf n) j)))
      (fun i j => x10 (ix4 (expertOf n) 0 i j)) (fun j => x11 (ix3 (expertOf n) 0 j)))
      (fun i j => x10 (ix4 (expertOf n) 1 i j)) (fun j => x11 (ix3 (expertOf n) 1 j)) j := by
  rw [val_main_v219_apply, val_main_v217_apply, val_main_v214_apply, val_main_v213_apply, val_main_v218_apply, val_main_cst_31_apply]
  refine max_congr (add_congr (add_congr (net1_second x0 x1 x8 x9 x10 x11 n j) (Finset.sum_congr rfl fun i _ => mul_congr ?_ ?_))
    (hiddenBias1_at x11 n j)) zero_word
  · exact (congrArg _ (funext fun a => match a with | ⟨0, _⟩ => rfl | ⟨1, _⟩ => rfl)).trans (net1_second x0 x1 x8 x9 x10 x11 n i)
  · exact (congrArg _ (funext fun a => match a with | ⟨0, _⟩ => rfl | ⟨1, _⟩ => rfl | ⟨2, _⟩ => rfl)).trans (hidden1_at x10 n i j)

/-- Channel 1's network. -/
theorem net1_at (x0 : FVec Ideal S1x3x384x384 .f32) (x1 : FVec Ideal S1x6x384x384 .f32) (x8 : FVec Ideal S16x103x64 .f32)
    (x9 : FVec Ideal S16x64 .f32) (x10 : FVec Ideal S16x2x64x64 .f32) (x11 : FVec Ideal S16x2x64 .f32)
    (x12 : FVec Ideal S16x64x4 .f32) (x13 : FVec Ideal S16x4 .f32) (n : Fin 147456) (k : Fin 4) :
    val_main_v221 (F := Ideal) x0 x1 x8 x9 x10 x11 x12 x13 (ix2 n k)
      = plainNet (fun q : Fin 103 => planeAt x0 x1 n ⟨q.val, by omega⟩) x8 x9 x10 x11 x12 x13 (expertOf n) k := by
  rw [val_main_v221_apply, val_main_v220_apply]
  refine add_congr (Finset.sum_congr rfl fun i _ => mul_congr ?_ ?_) (lastBias_at x13 n k)
  · exact (congrArg _ (funext fun a => match a with | ⟨0, _⟩ => rfl | ⟨1, _⟩ => rfl)).trans (net1_third x0 x1 x8 x9 x10 x11 n i)
  · exact (congrArg _ (funext fun a => match a with | ⟨0, _⟩ => rfl | ⟨1, _⟩ => rfl | ⟨2, _⟩ => rfl)).trans (last_at x12 n i k)

/-- Channel 2's first layer. -/
theorem net2_first (x0 : FVec Ideal S1x3x384x384 .f32) (x1 : FVec Ideal S1x6x384x384 .f32) (x14 : FVec Ideal S16x104x64 .f32)
    (x15 : FVec Ideal S16x64 .f32) (n : Fin 147456) (j : Fin 64) :
    val_main_v269 (F := Ideal) x0 x1 x14 x15 (ix2 n j)
      = firstLayer (fun q : Fin 104 => planeAt x0 x1 n ⟨q.val, by omega⟩) (fun q j => x14 (ix3 (expertOf n) q j))
      (fun j => x15 (ix2 (expertOf n) j)) j := by
  rw [val_main_v269_apply, val_main_v267_apply, val_main_v266_apply, val_main_v268_apply, val_main_cst_44_apply]
  refine max_congr (add_congr (Finset.sum_congr rfl fun q _ => mul_congr ?_ ?_) (bias_at x15 n j)) zero_word
  · exact (congrArg _ (funext fun a => match a with | ⟨0, _⟩ => rfl | ⟨1, _⟩ => rfl)).trans (input2_at x0 x1 n q)
  · exact (congrArg _ (funext fun a => match a with | ⟨0, _⟩ => rfl | ⟨1, _⟩ => rfl | ⟨2, _⟩ => rfl)).trans (first2_at x14 n q j)

/-- Channel 2's second layer. -/
theorem net2_second (x0 : FVec Ideal S1x3x384x384 .f32) (x1 : FVec Ideal S1x6x384x384 .f32) (x14 : FVec Ideal S16x104x64 .f32)
    (x15 : FVec Ideal S16x64 .f32) (x16 : FVec Ideal S16x2x64x64 .f32) (x17 : FVec Ideal S16x2x64 .f32) (n : Fin 147456) (j : Fin 64) :
    val_main_v278 (F := Ideal) x0 x1 x14 x15 x16 x17 (ix2 n j)
      = hiddenLayer (firstLayer (fun q : Fin 104 => planeAt x0 x1 n ⟨q.val, by omega⟩) (fun q j => x14 (ix3 (expertOf n) q j))
      (fun j => x15 (ix2 (expertOf n) j)))
      (fun i j => x16 (ix4 (expertOf n) 0 i j)) (fun j => x17 (ix3 (expertOf n) 0 j)) j := by
  rw [val_main_v278_apply, val_main_v276_apply, val_main_v273_apply, val_main_v272_apply, val_main_v277_apply, val_main_cst_45_apply]
  refine max_congr (add_congr (add_congr (net2_first x0 x1 x14 x15 n j) (Finset.sum_congr rfl fun i _ => mul_congr ?_ ?_))
    (hiddenBias0_at x17 n j)) zero_word
  · exact (congrArg _ (funext fun a => match a with | ⟨0, _⟩ => rfl | ⟨1, _⟩ => rfl)).trans (net2_first x0 x1 x14 x15 n i)
  · exact (congrArg _ (funext fun a => match a with | ⟨0, _⟩ => rfl | ⟨1, _⟩ => rfl | ⟨2, _⟩ => rfl)).trans (hidden0_at x16 n i j)

/-- Channel 2's third layer. -/
theorem net2_third (x0 : FVec Ideal S1x3x384x384 .f32) (x1 : FVec Ideal S1x6x384x384 .f32) (x14 : FVec Ideal S16x104x64 .f32)
    (x15 : FVec Ideal S16x64 .f32) (x16 : FVec Ideal S16x2x64x64 .f32) (x17 : FVec Ideal S16x2x64 .f32) (n : Fin 147456) (j : Fin 64) :
    val_main_v287 (F := Ideal) x0 x1 x14 x15 x16 x17 (ix2 n j)
      = hiddenLayer (hiddenLayer (firstLayer (fun q : Fin 104 => planeAt x0 x1 n ⟨q.val, by omega⟩) (fun q j => x14 (ix3 (expertOf n) q j))
      (fun j => x15 (ix2 (expertOf n) j)))
      (fun i j => x16 (ix4 (expertOf n) 0 i j)) (fun j => x17 (ix3 (expertOf n) 0 j)))
      (fun i j => x16 (ix4 (expertOf n) 1 i j)) (fun j => x17 (ix3 (expertOf n) 1 j)) j := by
  rw [val_main_v287_apply, val_main_v285_apply, val_main_v282_apply, val_main_v281_apply, val_main_v286_apply, val_main_cst_46_apply]
  refine max_congr (add_congr (add_congr (net2_second x0 x1 x14 x15 x16 x17 n j) (Finset.sum_congr rfl fun i _ => mul_congr ?_ ?_))
    (hiddenBias1_at x17 n j)) zero_word
  · exact (congrArg _ (funext fun a => match a with | ⟨0, _⟩ => rfl | ⟨1, _⟩ => rfl)).trans (net2_second x0 x1 x14 x15 x16 x17 n i)
  · exact (congrArg _ (funext fun a => match a with | ⟨0, _⟩ => rfl | ⟨1, _⟩ => rfl | ⟨2, _⟩ => rfl)).trans (hidden1_at x16 n i j)

/-- Channel 2's network. -/
theorem net2_at (x0 : FVec Ideal S1x3x384x384 .f32) (x1 : FVec Ideal S1x6x384x384 .f32) (x14 : FVec Ideal S16x104x64 .f32)
    (x15 : FVec Ideal S16x64 .f32) (x16 : FVec Ideal S16x2x64x64 .f32) (x17 : FVec Ideal S16x2x64 .f32)
    (x18 : FVec Ideal S16x64x4 .f32) (x19 : FVec Ideal S16x4 .f32) (n : Fin 147456) (k : Fin 4) :
    val_main_v289 (F := Ideal) x0 x1 x14 x15 x16 x17 x18 x19 (ix2 n k)
      = plainNet (fun q : Fin 104 => planeAt x0 x1 n ⟨q.val, by omega⟩) x14 x15 x16 x17 x18 x19 (expertOf n) k := by
  rw [val_main_v289_apply, val_main_v288_apply]
  refine add_congr (Finset.sum_congr rfl fun i _ => mul_congr ?_ ?_) (lastBias_at x19 n k)
  · exact (congrArg _ (funext fun a => match a with | ⟨0, _⟩ => rfl | ⟨1, _⟩ => rfl)).trans (net2_third x0 x1 x14 x15 x16 x17 n i)
  · exact (congrArg _ (funext fun a => match a with | ⟨0, _⟩ => rfl | ⟨1, _⟩ => rfl | ⟨2, _⟩ => rfl)).trans (last_at x18 n i k)

/-- The result of channel 0. -/
theorem reference_at0
    (x0 : FVec Ideal S1x3x384x384 .f32) (x1 : FVec Ideal S1x6x384x384 .f32) (x2 : FVec Ideal S16x102x64 .f32) (x3 : FVec Ideal S16x64 .f32)
    (x4 : FVec Ideal S16x2x64x64 .f32) (x5 : FVec Ideal S16x2x64 .f32) (x6 : FVec Ideal S16x64x4 .f32) (x7 : FVec Ideal S16x4 .f32)
    (x8 : FVec Ideal S16x103x64 .f32) (x9 : FVec Ideal S16x64 .f32) (x10 : FVec Ideal S16x2x64x64 .f32) (x11 : FVec Ideal S16x2x64 .f32)
    (x12 : FVec Ideal S16x64x4 .f32) (x13 : FVec Ideal S16x4 .f32) (x14 : FVec Ideal S16x104x64 .f32) (x15 : FVec Ideal S16x64 .f32)
    (x16 : FVec Ideal S16x2x64x64 .f32) (x17 : FVec Ideal S16x2x64 .f32) (x18 : FVec Ideal S16x64x4 .f32) (x19 : FVec Ideal S16x4 .f32)
    (n : Fin 147456) (k : Fin 4) :
    val_main_v293 (F := Ideal) x0 x1 x2 x3 x4 x5 x6 x7 x8 x9 x10 x11 x12 x13 x14 x15 x16 x17 x18 x19 (ix3 n (0 : Fin 3) k)
      = plainNet (fun q : Fin 102 => planeAt x0 x1 n ⟨q.val, by omega⟩) x2 x3 x4 x5 x6 x7 (expertOf n) k := by
  unfold val_main_v293
  pointwise
  rw [val_main_v290_apply]
  exact (congrArg _ (funext fun a => match a with | ⟨0, _⟩ => rfl | ⟨1, _⟩ => rfl)).trans (net0_at x0 x1 x2 x3 x4 x5 x6 x7 n k)

/-- The result of channel 1. -/
theorem reference_at1
    (x0 : FVec Ideal S1x3x384x384 .f32) (x1 : FVec Ideal S1x6x384x384 .f32) (x2 : FVec Ideal S16x102x64 .f32) (x3 : FVec Ideal S16x64 .f32)
    (x4 : FVec Ideal S16x2x64x64 .f32) (x5 : FVec Ideal S16x2x64 .f32) (x6 : FVec Ideal S16x64x4 .f32) (x7 : FVec Ideal S16x4 .f32)
    (x8 : FVec Ideal S16x103x64 .f32) (x9 : FVec Ideal S16x64 .f32) (x10 : FVec Ideal S16x2x64x64 .f32) (x11 : FVec Ideal S16x2x64 .f32)
    (x12 : FVec Ideal S16x64x4 .f32) (x13 : FVec Ideal S16x4 .f32) (x14 : FVec Ideal S16x104x64 .f32) (x15 : FVec Ideal S16x64 .f32)
    (x16 : FVec Ideal S16x2x64x64 .f32) (x17 : FVec Ideal S16x2x64 .f32) (x18 : FVec Ideal S16x64x4 .f32) (x19 : FVec Ideal S16x4 .f32)
    (n : Fin 147456) (k : Fin 4) :
    val_main_v293 (F := Ideal) x0 x1 x2 x3 x4 x5 x6 x7 x8 x9 x10 x11 x12 x13 x14 x15 x16 x17 x18 x19 (ix3 n (1 : Fin 3) k)
      = plainNet (fun q : Fin 103 => planeAt x0 x1 n ⟨q.val, by omega⟩) x8 x9 x10 x11 x12 x13 (expertOf n) k := by
  unfold val_main_v293
  pointwise
  rw [val_main_v291_apply]
  exact (congrArg _ (funext fun a => match a with | ⟨0, _⟩ => rfl | ⟨1, _⟩ => rfl)).trans (net1_at x0 x1 x8 x9 x10 x11 x12 x13 n k)

/-- The result of channel 2. -/
theorem reference_at2
    (x0 : FVec Ideal S1x3x384x384 .f32) (x1 : FVec Ideal S1x6x384x384 .f32) (x2 : FVec Ideal S16x102x64 .f32) (x3 : FVec Ideal S16x64 .f32)
    (x4 : FVec Ideal S16x2x64x64 .f32) (x5 : FVec Ideal S16x2x64 .f32) (x6 : FVec Ideal S16x64x4 .f32) (x7 : FVec Ideal S16x4 .f32)
    (x8 : FVec Ideal S16x103x64 .f32) (x9 : FVec Ideal S16x64 .f32) (x10 : FVec Ideal S16x2x64x64 .f32) (x11 : FVec Ideal S16x2x64 .f32)
    (x12 : FVec Ideal S16x64x4 .f32) (x13 : FVec Ideal S16x4 .f32) (x14 : FVec Ideal S16x104x64 .f32) (x15 : FVec Ideal S16x64 .f32)
    (x16 : FVec Ideal S16x2x64x64 .f32) (x17 : FVec Ideal S16x2x64 .f32) (x18 : FVec Ideal S16x64x4 .f32) (x19 : FVec Ideal S16x4 .f32)
    (n : Fin 147456) (k : Fin 4) :
    val_main_v293 (F := Ideal) x0 x1 x2 x3 x4 x5 x6 x7 x8 x9 x10 x11 x12 x13 x14 x15 x16 x17 x18 x19 (ix3 n (2 : Fin 3) k)
      = plainNet (fun q : Fin 104 => planeAt x0 x1 n ⟨q.val, by omega⟩) x14 x15 x16 x17 x18 x19 (expertOf n) k := by
  unfold val_main_v293
  pointwise
  rw [val_main_v292_apply]
  exact (congrArg _ (funext fun a => match a with | ⟨0, _⟩ => rfl | ⟨1, _⟩ => rfl)).trans (net2_at x0 x1 x14 x15 x16 x17 x18 x19 n k)

end Cert.Proof

end
-- ==== Proof.Equation.lean ====
/- The two programs' results are the same array when the inputs the precondition names are real. -/
module

public import proofs.«01_k».proof.Proof.Finite
public import proofs.«01_k».proof.Proof.ReferenceNet

@[expose] public section

set_option maxRecDepth 16384

noncomputable section

namespace Cert.Proof

open Cert.KernelIdeal Cert.KernelIdeal.Gen
open Idealize.ShloMosaic Idealize.ShloMosaic.TcCoe Idealize.ShloMosaic.Tactic Idealize.SL.Sem Idealize.ShloMosaic.StableHlo

/-- The reference's result over the kernel's arguments is the kernel's result. -/
theorem results_eq (m : (ℓ : Loc nD τ sig) → Buf (Elt Ideal) ℓ) (ρ : Dev nD → PrngReg) (c : Dev nD)
    (h0 : ∀ i, IsReal ((show FVec Ideal S1x3x384x384 .f32 from m ((c : Thread nD τ).loc main_arg0)) i)) (h1 : ∀ i, IsReal ((show FVec Ideal S1x6x384x384 .f32 from m ((c : Thread nD τ).loc main_arg1)) i))
    (r0 : RealChannel (show FVec Ideal S16x102x64 .f32 from m ((c : Thread nD τ).loc main_arg2)) (show FVec Ideal S16x64 .f32 from m ((c : Thread nD τ).loc main_arg3))
      (show FVec Ideal S16x2x64x64 .f32 from m ((c : Thread nD τ).loc main_arg4)) (show FVec Ideal S16x2x64 .f32 from m ((c : Thread nD τ).loc main_arg5)))
    (r1 : RealChannel (show FVec Ideal S16x103x64 .f32 from m ((c : Thread nD τ).loc main_arg8)) (show FVec Ideal S16x64 .f32 from m ((c : Thread nD τ).loc main_arg9))
      (show FVec Ideal S16x2x64x64 .f32 from m ((c : Thread nD τ).loc main_arg10)) (show FVec Ideal S16x2x64 .f32 from m ((c : Thread nD τ).loc main_arg11)))
    (r2 : RealChannel (show FVec Ideal S16x104x64 .f32 from m ((c : Thread nD τ).loc main_arg14)) (show FVec Ideal S16x64 .f32 from m ((c : Thread nD τ).loc main_arg15))
      (show FVec Ideal S16x2x64x64 .f32 from m ((c : Thread nD τ).loc main_arg16)) (show FVec Ideal S16x2x64 .f32 from m ((c : Thread nD τ).loc main_arg17))) :
    Cert.ReferenceIdeal.Read.val_main_v293 (F := Ideal)
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) (m ((c : Thread nD τ).loc main_arg16)) (m ((c : Thread nD τ).loc main_arg17))
        (m ((c : Thread nD τ).loc main_arg18)) (m ((c : Thread nD τ).loc main_arg19))
      = (show FVec Ideal S147456x3x4 .f32 from W12 m ρ c (Proc.devRef .tc main_v93)) := by
  have e : ∀ (n : Fin 147456) (ch : Fin 3) (k : Fin 4), Cert.ReferenceIdeal.Read.val_main_v293 (F := Ideal)
        (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) (m ((c : Thread nD τ).loc main_arg16)) (m ((c : Thread nD τ).loc main_arg17))
        (m ((c : Thread nD τ).loc main_arg18)) (m ((c : Thread nD τ).loc main_arg19)) (ix3 n ch k)
      = (show FVec Ideal S147456x3x4 .f32 from W12 m ρ c (Proc.devRef .tc main_v93)) (ix3 n ch k) := fun n ch k =>
    match ch with
    | ⟨0, _⟩ => (reference_at0 _ _ _ _ _ _ _ _ _ _ _ _ _ _ _ _ _ _ _ _ n k).trans
        ((net_eq (by omega) _ _ _ _ _ _ _ _ h0 h1 r0 n k).symm.trans (kernel_at0 m ρ c n k).symm)
    | ⟨1, _⟩ => (reference_at1 _ _ _ _ _ _ _ _ _ _ _ _ _ _ _ _ _ _ _ _ n k).trans
        ((net_eq (by omega) _ _ _ _ _ _ _ _ h0 h1 r1 n k).symm.trans (kernel_at1 m ρ c n k).symm)
    | ⟨2, _⟩ => (reference_at2 _ _ _ _ _ _ _ _ _ _ _ _ _ _ _ _ _ _ _ _ n k).trans
        ((net_eq (by omega) _ _ _ _ _ _ _ _ h0 h1 r2 n k).symm.trans (kernel_at2 m ρ c n k).symm)
  funext i
  rw [eq_ix3 i]
  exact e (i 0) (i 1) (i 2)

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.KernelRun
public import proofs.«01_k».proof.Proof.Equation
public import Idealize.ShloMosaic.Lib.Claim

@[expose] public section

set_option maxRecDepth 16384

noncomputable section

namespace Cert.Proof

open Idealize.ShloMosaic Idealize.ShloMosaic.TcCoe Idealize.SL.Sem

instance : Cert.Pre_finite_inputs.Facts := preFacts

/-- The reference runs, its arguments end unchanged, and it has no semaphore. -/
theorem referenceFrame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The value claim: both results are the array of `results_eq`. -/
theorem algebraic : Cert.algebraic_KernelIdeal_ReferenceIdeal_pre_finite_inputs := by
  pair_intro
  · run_from kernelRun m g
  · run_from Cert.ReferenceIdeal.Value.run m' g'
    obtain ⟨h0, h1, r0, r1, r2⟩ := inputs_real _ _ _ _ _ _ _ _ _ _ _ _ _ _ _ _ _ _ _ _ (hpre c)
    refine Eq.trans ?_ (results_eq m g c h0 h1 r0 r1 r2)
    obtain ⟨e0, e1, e2, e3, e4, e5, e6, e7, e8, e9, e10, e11, e12, e13, e14, e15, e16, e17, e18, e19⟩ := hagree c
    rw [Cert.ReferenceIdeal.Read.val_main_v293_eq]
    repeat rw [StableHlo.launchContents_devRef]
    rw [e0, e1, e2, e3, e4, e5, e6, e7, e8, e9, e10, e11, e12, e13, e14, e15, e16, e17, e18, e19]

theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ, fun m ρ _ => Cert.KernelIdeal.Gen.frame m ρ,
  referenceFrame, fun m ρ _ => referenceFrame m ρ trivial, trivial, algebraic⟩

end Cert.Proof

end
